-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_finite [hPre_distinct_finite : Cert.Pre_distinct_finite.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_finite [hPre_distinct_finite : Cert.Pre_distinct_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_distinct_finite [hKernelIdeal : Cert.KernelIdeal.Facts] [hPre_distinct_finite : Cert.Pre_distinct_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_distinct_finite [hReferenceIdeal : Cert.ReferenceIdeal.Facts] [hPre_distinct_finite : Cert.Pre_distinct_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_distinct_finite [hKernelIdeal : Cert.KernelIdeal.Facts] [hReferenceIdeal : Cert.ReferenceIdeal.Facts] [hPre_distinct_finite : Cert.Pre_distinct_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_distinct_finite : Cert.Pre_distinct_finite.Facts),
    quiescent_Kernel (hKernel := hKernel)
    ∧ quiescent_KernelIdeal (hKernelIdeal := hKernelIdeal)
    ∧ quiescent_KernelIdeal_pre_distinct_finite (hKernelIdeal := hKernelIdeal) (hPre_distinct_finite := hPre_distinct_finite)
    ∧ quiescent_ReferenceIdeal (hReferenceIdeal := hReferenceIdeal)
    ∧ quiescent_ReferenceIdeal_pre_distinct_finite (hReferenceIdeal := hReferenceIdeal) (hPre_distinct_finite := hPre_distinct_finite)
    ∧ preserves_Kernel_KernelIdeal
    ∧ algebraic_KernelIdeal_ReferenceIdeal_pre_distinct_finite (hKernelIdeal := hKernelIdeal) (hReferenceIdeal := hReferenceIdeal) (hPre_distinct_finite := hPre_distinct_finite)
-- ==== Pre_distinct_finite.lean ====
abbrev S4x8192x3 : Shape := ⟨3, ![4, 8192, 3]⟩
abbrev S4x2048x3 : Shape := ⟨3, ![4, 2048, 3]⟩
abbrev S4x8192x64 : Shape := ⟨3, ![4, 8192, 64]⟩
abbrev S4x2048x128 : Shape := ⟨3, ![4, 2048, 128]⟩
abbrev S128x192 : Shape := ⟨2, ![128, 192]⟩
abbrev S128 : Shape := ⟨1, ![128]⟩
abbrev S64x128 : Shape := ⟨2, ![64, 128]⟩
abbrev S64 : Shape := ⟨1, ![64]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x4 : Shape := ⟨3, ![4, 8192, 4]⟩

class Facts : Prop where
  bcast_S_S4x8192x2048 : S_.BroadcastsInDim S4x8192x2048 (![] : Fin 0 → Fin S4x8192x2048.rank)
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192x1_S4x8192x2048_0_1_2 : S4x8192x1.BroadcastsInDim S4x8192x2048 (![0, 1, 2] : Fin 3 → Fin S4x8192x2048.rank)
  reducesTo_S4x2048x3_S4x2048_d2 : S4x2048x3.ReducesTo [2] S4x2048
  bcast_S4x2048_S4x1x2048_0_2 : S4x2048.BroadcastsInDim S4x1x2048 (![0, 2] : Fin 2 → Fin S4x1x2048.rank)
  bcast_S4x1x2048_S4x8192x2048_0_1_2 : S4x1x2048.BroadcastsInDim S4x8192x2048 (![0, 1, 2] : Fin 3 → Fin S4x8192x2048.rank)
  sliceFits_S4x8192x2048_S4x8192x4 : S4x8192x2048.Slices (fun _ => 0) S4x8192x4
  slices_S4x8192x4_S4x8192x3_0_0_0 : S4x8192x4.Slices ![0, 0, 0] S4x8192x3
  slices_S4x8192x4_S4x8192x3_0_0_1 : S4x8192x4.Slices ![0, 0, 1] S4x8192x3
  bcast_S_S4x8192x64 : S_.BroadcastsInDim S4x8192x64 (![] : Fin 0 → Fin S4x8192x64.rank)
  bcast_S_S4x2048x128 : S_.BroadcastsInDim S4x2048x128 (![] : Fin 0 → Fin S4x2048x128.rank)
  bcast_S_S128x192 : S_.BroadcastsInDim S128x192 (![] : Fin 0 → Fin S128x192.rank)
  bcast_S_S128 : S_.BroadcastsInDim S128 (![] : Fin 0 → Fin S128.rank)
  bcast_S_S64x128 : S_.BroadcastsInDim S64x128 (![] : Fin 0 → Fin S64x128.rank)
  bcast_S_S64 : S_.BroadcastsInDim S64 (![] : Fin 0 → Fin S64.rank)
  dot_S4x8192x3_S4x2048x3_S4x8192x2048_2_2_1_1_0_0_wf : DotDims.WF S4x8192x3 S4x2048x3 S4x8192x2048 [2] [2] [1] [1] [0] [0]

variable [Facts]

def dot_S4x8192x3_S4x2048x3_S4x8192x2048_2_2_1_1_0_0 : DotDims S4x8192x3 S4x2048x3 S4x8192x2048 where
  lhsContracting := [2]
  rhsContracting := [2]
  lhsNonContracting := [1]
  rhsNonContracting := [1]
  lhsBatch := [0]
  rhsBatch := [0]
  wf := dot_S4x8192x3_S4x2048x3_S4x8192x2048_2_2_1_1_0_0_wf
def fn_part2 {F : FTy → Type} [FloatOps F] (main_arg10 : FVec F S64 .f32) (main_v16 : IVec S4x8192x3 1) (main_v19 : IVec S4x8192x64 1) (main_v22 : IVec S4x2048x128 1) (main_v25 : IVec S128x192 1) (main_v28 : IVec S128 1) (main_v30 : IVec S128 1) (main_v33 : IVec S64x128 1) (main_v34 : FVec F S64 .f32) (main_v35 : FVec F S64 .f32) : IVec S4x8192x3 1 × IVec S4x8192x64 1 × IVec S4x2048x128 1 × IVec S128x192 1 × IVec S128 1 × IVec S128 1 × IVec S64x128 1 × IVec S64 1 × IVec S64 1 :=
  let main_v36 : IVec S64 1 := cmpf .olt main_v34 main_v35
  let main_v37 : FVec F S64 .f32 := Host.absf main_arg10
  let main_cst_9 : FVec F S_ .f32 := constant S_ .f32 0x7F800000#32
  let main_v38 : FVec F S64 .f32 := broadcastInDim S64 ![] bcast_S_S64 main_cst_9
  let main_v39 : IVec S64 1 := cmpf .olt main_v37 main_v38
  (main_v16, main_v19, main_v22, main_v25, main_v28, main_v30, main_v33, main_v36, main_v39)

def fn_part1 {F : FTy → Type} [FloatOps F] (main_arg3 : FVec F S4x2048x128 .f32) (main_arg4 : FVec F S128x192 .f32) (main_arg6 : FVec F S128 .f32) (main_arg7 : FVec F S128 .f32) (main_arg8 : FVec F S64x128 .f32) (main_arg9 : FVec F S64 .f32) (main_arg10 : FVec F S64 .f32) (main_v16 : IVec S4x8192x3 1) (main_v17 : FVec F S4x8192x64 .f32) (main_cst_2 : FVec F S_ .f32) : IVec S4x8192x3 1 × IVec S4x8192x64 1 × IVec S4x2048x128 1 × IVec S128x192 1 × IVec S128 1 × IVec S128 1 × IVec S64x128 1 × IVec S64 1 × IVec S64 1 :=
  let main_v18 : FVec F S4x8192x64 .f32 := broadcastInDim S4x8192x64 ![] bcast_S_S4x8192x64 main_cst_2
  let main_v19 : IVec S4x8192x64 1 := cmpf .olt main_v17 main_v18
  let main_v20 : FVec F S4x2048x128 .f32 := Host.absf main_arg3
  let main_cst_3 : FVec F S_ .f32 := constant S_ .f32 0x7F800000#32
  let main_v21 : FVec F S4x2048x128 .f32 := broadcastInDim S4x2048x128 ![] bcast_S_S4x2048x128 main_cst_3
  let main_v22 : IVec S4x2048x128 1 := cmpf .olt main_v20 main_v21
  let main_v23 : FVec F S128x192 .f32 := Host.absf main_arg4
  let main_cst_4 : FVec F S_ .f32 := constant S_ .f32 0x7F800000#32
  let main_v24 : FVec F S128x192 .f32 := broadcastInDim S128x192 ![] bcast_S_S128x192 main_cst_4
  let main_v25 : IVec S128x192 1 := cmpf .olt main_v23 main_v24
  let main_v26 : FVec F S128 .f32 := Host.absf main_arg6
  let main_cst_5 : FVec F S_ .f32 := constant S_ .f32 0x7F800000#32
  let main_v27 : FVec F S128 .f32 := broadcastInDim S128 ![] bcast_S_S128 main_cst_5
  let main_v28 : IVec S128 1 := cmpf .olt main_v26 main_v27
  let main_cst_6 : FVec F S_ .f32 := constant S_ .f32 0x7F800000#32
  let main_v29 : FVec F S128 .f32 := broadcastInDim S128 ![] bcast_S_S128 main_cst_6
  let main_v30 : IVec S128 1 := cmpf .olt main_arg7 main_v29
  let main_v31 : FVec F S64x128 .f32 := Host.absf main_arg8
  let main_cst_7 : FVec F S_ .f32 := constant S_ .f32 0x7F800000#32
  let main_v32 : FVec F S64x128 .f32 := broadcastInDim S64x128 ![] bcast_S_S64x128 main_cst_7
  let main_v33 : IVec S64x128 1 := cmpf .olt main_v31 main_v32
  let main_v34 : FVec F S64 .f32 := Host.absf main_arg9
  let main_cst_8 : FVec F S_ .f32 := constant S_ .f32 0x7F800000#32
  let main_v35 : FVec F S64 .f32 := broadcastInDim S64 ![] bcast_S_S64 main_cst_8
  fn_part2 (F := F) main_arg10 main_v16 main_v19 main_v22 main_v25 main_v28 main_v30 main_v33 main_v34 main_v35

def fn {F : FTy → Type} [FloatOps F] (main_arg0 : FVec F S4x8192x3 .f32) (main_arg1 : FVec F S4x2048x3 .f32) (main_arg2 : FVec F S4x8192x64 .f32) (main_arg3 : FVec F S4x2048x128 .f32) (main_arg4 : FVec F S128x192 .f32) (main_arg5 : FVec F S128 .f32) (main_arg6 : FVec F S128 .f32) (main_arg7 : FVec F S128 .f32) (main_arg8 : FVec F S64x128 .f32) (main_arg9 : FVec F S64 .f32) (main_arg10 : FVec F S64 .f32) (main_arg11 : FVec F S64 .f32) : IVec S4x8192x3 1 × IVec S4x8192x64 1 × IVec S4x2048x128 1 × IVec S128x192 1 × IVec S128 1 × IVec S128 1 × IVec S64x128 1 × IVec S64 1 × IVec S64 1 :=
  let main_v0 : FVec F S4x8192x2048 .f32 := (fun l r => Host.dotGeneral dot_S4x8192x3_S4x2048x3_S4x8192x2048_2_2_1_1_0_0 none l r) main_arg0 main_arg1
  let main_cst : FVec F S_ .f32 := constant S_ .f32 0xC0000000#32
  let main_v1 : FVec F S4x8192x2048 .f32 := broadcastInDim S4x8192x2048 ![] bcast_S_S4x8192x2048 main_cst
  let main_v2 : FVec F S4x8192x2048 .f32 := mulf main_v1 main_v0
  let main_v3 : FVec F S4x8192x3 .f32 := mulf main_arg0 main_arg0
  let main_cst_0 : FVec F S_ .f32 := constant S_ .f32 0x00000000#32
  let main_v4 : FVec F S4x8192 .f32 := (fun x v => Host.reduceAdd x v reducesTo_S4x8192x3_S4x8192_d2 h_S_) main_v3 main_cst_0
  let main_v5 : FVec F S4x8192x1 .f32 := broadcastInDim S4x8192x1 ![0, 1] bcast_S4x8192_S4x8192x1_0_1 main_v4
  let main_v6 : FVec F S4x8192x2048 .f32 := broadcastInDim S4x8192x2048 ![0, 1, 2] bcast_S4x8192x1_S4x8192x2048_0_1_2 main_v5
  let main_v7 : FVec F S4x8192x2048 .f32 := addf main_v2 main_v6
  let main_v8 : FVec F S4x2048x3 .f32 := mulf main_arg1 main_arg1
  let main_cst_1 : FVec F S_ .f32 := constant S_ .f32 0x00000000#32
  let main_v9 : FVec F S4x2048 .f32 := (fun x v => Host.reduceAdd x v reducesTo_S4x2048x3_S4x2048_d2 h_S_) main_v8 main_cst_1
  let main_v10 : FVec F S4x1x2048 .f32 := broadcastInDim S4x1x2048 ![0, 2] bcast_S4x2048_S4x1x2048_0_2 main_v9
  let main_v11 : FVec F S4x8192x2048 .f32 := broadcastInDim S4x8192x2048 ![0, 1, 2] bcast_S4x1x2048_S4x8192x2048_0_1_2 main_v10
  let main_v12 : FVec F S4x8192x2048 .f32 := addf main_v7 main_v11
  let main_v13 : FVec F S4x8192x2048 .f32 := Host.negf main_v12
  let main_values : FVec F S4x8192x4 .f32 := (fun x => (Host.topK S4x8192x4 2 (FloatOps.cmpfTotal .gt) x sliceFits_S4x8192x2048_S4x8192x4).1) main_v13
  let main_indices : IVec S4x8192x4 32 := (fun x => (Host.topK S4x8192x4 2 (FloatOps.cmpfTotal .gt) x sliceFits_S4x8192x2048_S4x8192x4).2) main_v13
  let main_v14 : FVec F S4x8192x3 .f32 := (extractStridedSlice S4x8192x3 ![0, 0, 0] · slices_S4x8192x4_S4x8192x3_0_0_0) main_values
  let main_v15 : FVec F S4x8192x3 .f32 := (extractStridedSlice S4x8192x3 ![0, 0, 1] · slices_S4x8192x4_S4x8192x3_0_0_1) main_values
  let main_v16 : IVec S4x8192x3 1 := cmpf .ogt main_v14 main_v15
  let main_v17 : FVec F S4x8192x64 .f32 := Host.absf main_arg2
  let main_cst_2 : FVec F S_ .f32 := constant S_ .f32 0x7F800000#32
  fn_part1 (F := F) main_arg3 main_arg4 main_arg6 main_arg7 main_arg8 main_arg9 main_arg10 main_v16 main_v17 main_cst_2
-- ==== Kernel.lean ====
abbrev S4x8192x3 : Shape := ⟨3, ![4, 8192, 3]⟩
abbrev S4x2048x3 : Shape := ⟨3, ![4, 2048, 3]⟩
abbrev S4x8192x64 : Shape := ⟨3, ![4, 8192, 64]⟩
abbrev S4x2048x128 : Shape := ⟨3, ![4, 2048, 128]⟩
abbrev S128x192 : Shape := ⟨2, ![128, 192]⟩
abbrev S128 : Shape := ⟨1, ![128]⟩
abbrev S64x128 : Shape := ⟨2, ![64, 128]⟩
abbrev S64 : Shape := ⟨1, ![64]⟩
abbrev S128x64 : Shape := ⟨2, ![128, 64]⟩
abbrev S128x128 : Shape := ⟨2, ![128, 128]⟩
abbrev S1x128 : Shape := ⟨2, ![1, 128]⟩
abbrev S4x8192x128 : Shape := ⟨3, ![4, 8192, 128]⟩
abbrev S1x2048x3 : Shape := ⟨3, ![1, 2048, 3]⟩
abbrev S1x2048x64 : Shape := ⟨3, ![1, 2048, 64]⟩
abbrev S1x2048x128 : Shape := ⟨3, ![1, 2048, 128]⟩
abbrev S2048x3 : Shape := ⟨2, ![2048, 3]⟩
abbrev S3x2048 : Shape := ⟨2, ![3, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x128 : Shape := ⟨2, ![2048, 128]⟩
abbrev S2048x64 : Shape := ⟨2, ![2048, 64]⟩
abbrev S32768x128 : Shape := ⟨2, ![32768, 128]⟩
abbrev S1x64 : Shape := ⟨2, ![1, 64]⟩
abbrev S32768x64 : Shape := ⟨2, ![32768, 64]⟩
abbrev S4096x64 : Shape := ⟨2, ![4096, 64]⟩

abbrev nBuf : Space → Nat
  | .hbm => 32
  | .vmem => 35
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x8192x64, .f32⟩
  | .hbm, ⟨3, _⟩ => ⟨S4x2048x128, .f32⟩
  | .hbm, ⟨4, _⟩ => ⟨S128x192, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S64x128, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S128x64, .f32⟩
  | .hbm, ⟨13, _⟩ => ⟨S64x128, .f32⟩
  | .hbm, ⟨14, _⟩ => ⟨S128x128, .f32⟩
  | .hbm, ⟨15, _⟩ => ⟨S128x128, .f32⟩
  | .hbm, ⟨16, _⟩ => ⟨S128x64, .f32⟩
  | .hbm, ⟨17, _⟩ => ⟨S1x128, .f32⟩
  | .hbm, ⟨18, _⟩ => ⟨S4x8192x128, .f32⟩
  | .hbm, ⟨19, _⟩ => ⟨S1x128, .f32⟩
  | .hbm, ⟨20, _⟩ => ⟨S1x128, .f32⟩
  | .hbm, ⟨21, _⟩ => ⟨S32768x128, .f32⟩
  | .hbm, ⟨22, _⟩ => ⟨S1x128, .f32⟩
  | .hbm, ⟨23, _⟩ => ⟨S1x128, .f32⟩
  | .hbm, ⟨24, _⟩ => ⟨S1x64, .f32⟩
  | .hbm, ⟨25, _⟩ => ⟨S32768x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S32768x64, .f32⟩
  | .hbm, ⟨31, _⟩ => ⟨S4x8192x64, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x3, .f32⟩
  | .local _ .vmem, ⟨3, _⟩ => ⟨S1x2048x3, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x128, .f32⟩
  | .local _ .vmem, ⟨7, _⟩ => ⟨S1x2048x128, .f32⟩
  | .local _ .vmem, ⟨8, _⟩ => ⟨S64x128, .f32⟩
  | .local _ .vmem, ⟨9, _⟩ => ⟨S128x128, .f32⟩
  | .local _ .vmem, ⟨10, _⟩ => ⟨S1x128, .f32⟩
  | .local _ .vmem, ⟨11, _⟩ => ⟨S1x2048x128, .f32⟩
  | .local _ .vmem, ⟨12, _⟩ => ⟨S1x2048x128, .f32⟩
  | .local _ .vmem, ⟨13, _⟩ => ⟨S1x128, .f32⟩
  | .local _ .vmem, ⟨14, _⟩ => ⟨S1x128, .f32⟩
  | .local _ .vmem, ⟨15, _⟩ => ⟨S2048x128, .f32⟩
  | .local _ .vmem, ⟨16, _⟩ => ⟨S2048x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S128x64, .f32⟩
  | .local _ .vmem, ⟨22, _⟩ => ⟨S1x64, .f32⟩
  | .local _ .vmem, ⟨23, _⟩ => ⟨S2048x64, .f32⟩
  | .local _ .vmem, ⟨24, _⟩ => ⟨S2048x64, .f32⟩
  | .local _ .vmem, ⟨25, _⟩ => ⟨S1x64, .f32⟩
  | .local _ .vmem, ⟨26, _⟩ => ⟨S1x64, .f32⟩
  | .local _ .vmem, ⟨27, _⟩ => ⟨S4096x64, .f32⟩
  | .local _ .vmem, ⟨28, _⟩ => ⟨S4096x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S4096x64, .f32⟩
  | .local _ .vmem, ⟨34, _⟩ => ⟨S4096x64, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg9_0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24
abbrev cc1_sem8_0 : DmaSem sig := 25
abbrev cc1_sem9_0 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S4x8192x3 : Shape := ⟨3, ![4, 8192, 3]⟩
abbrev S4x2048x3 : Shape := ⟨3, ![4, 2048, 3]⟩
abbrev S4x8192x64 : Shape := ⟨3, ![4, 8192, 64]⟩
abbrev S4x2048x128 : Shape := ⟨3, ![4, 2048, 128]⟩
abbrev S128x192 : Shape := ⟨2, ![128, 192]⟩
abbrev S128 : Shape := ⟨1, ![128]⟩
abbrev S64x128 : Shape := ⟨2, ![64, 128]⟩
abbrev S64 : Shape := ⟨1, ![64]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x3x1 : Shape := ⟨4, ![4, 8192, 3, 1]⟩
abbrev S4x8192x3x128 : Shape := ⟨4, ![4, 8192, 3, 128]⟩
abbrev S4x8192x128 : Shape := ⟨3, ![4, 8192, 128]⟩
abbrev S4x8192x192 : Shape := ⟨3, ![4, 8192, 192]⟩
abbrev S4x192x8192 : Shape := ⟨3, ![4, 192, 8192]⟩
abbrev S4x128x8192 : Shape := ⟨3, ![4, 128, 8192]⟩
abbrev S1x128x1 : Shape := ⟨3, ![1, 128, 1]⟩
abbrev S4x64x8192 : Shape := ⟨3, ![4, 64, 8192]⟩
abbrev S1x64x1 : Shape := ⟨3, ![1, 64, 1]⟩

abbrev nBuf : Space → Nat
  | .hbm => 139
  | .vmem => 0
  | .smem => 0
  | _ => 0

abbrev hbmTy0_0 (i : Nat) : BufTy := match i % 128 with
  | 0 => ⟨S4x8192x3, .f32⟩
  | 1 => ⟨S4x2048x3, .f32⟩
  | 2 => ⟨S4x8192x64, .f32⟩
  | 3 => ⟨S4x2048x128, .f32⟩
  | 4 => ⟨S128x192, .f32⟩
  | 5 => ⟨S128, .f32⟩
  | 6 => ⟨S128, .f32⟩
  | 7 => ⟨S128, .f32⟩
  | 8 => ⟨S64x128, .f32⟩
  | 9 => ⟨S64, .f32⟩
  | 10 => ⟨S64, .f32⟩
  | 11 => ⟨S64, .f32⟩
  | 12 => ⟨S4x8192x2048, .f32⟩
  | 13 => ⟨S_, .f32⟩
  | 14 => ⟨S4x8192x2048, .f32⟩
  | 15 => ⟨S4x8192x2048, .f32⟩
  | 16 => ⟨S4x8192x3, .f32⟩
  | 17 => ⟨S_, .f32⟩
  | 18 => ⟨S4x8192, .f32⟩
  | 19 => ⟨S4x8192x1, .f32⟩
  | 20 => ⟨S4x8192x2048, .f32⟩
  | 21 => ⟨S4x8192x2048, .f32⟩
  | 22 => ⟨S4x2048x3, .f32⟩
  | 23 => ⟨S_, .f32⟩
  | 24 => ⟨S4x2048, .f32⟩
  | 25 => ⟨S4x1x2048, .f32⟩
  | 26 => ⟨S4x8192x2048, .f32⟩
  | 27 => ⟨S4x8192x2048, .f32⟩
  | 28 => ⟨S4x8192x2048, .f32⟩
  | 29 => ⟨S4x8192x3, .f32⟩
  | 30 => ⟨S4x8192x3, .i32⟩
  | 31 => ⟨S4x8192x3, .f32⟩
  | 32 => ⟨S_, .f32⟩
  | 33 => ⟨S_, .f32⟩
  | 34 => ⟨S4x8192x3, .f32⟩
  | 35 => ⟨S4x8192x3, .f32⟩
  | 36 => ⟨S_, .f32⟩
  | 37 => ⟨S4x8192x3, .f32⟩
  | 38 => ⟨S4x8192x3, .f32⟩
  | 39 => ⟨S_, .f32⟩
  | 40 => ⟨S4x8192, .f32⟩
  | 41 => ⟨S4x8192x1, .f32⟩
  | 42 => ⟨S_, .f32⟩
  | 43 => ⟨S_, .f32⟩
  | 44 => ⟨S4x8192x1, .f32⟩
  | 45 => ⟨S4x8192x1, .f32⟩
  | 46 => ⟨S4x8192x3, .f32⟩
  | 47 => ⟨S4x8192x3, .f32⟩
  | 48 => ⟨S_, .i32⟩
  | 49 => ⟨S4x8192x3, .i32⟩
  | 50 => ⟨S4x8192x3, .i1⟩
  | 51 => ⟨S_, .i32⟩
  | 52 => ⟨S4x8192x3, .i32⟩
  | 53 => ⟨S4x8192x3, .i32⟩
  | 54 => ⟨S4x8192x3, .i32⟩
  | 55 => ⟨S4x8192x3x1, .i32⟩
  | 56 => ⟨S4x8192x3x128, .f32⟩
  | 57 => ⟨S4x8192x3x1, .f32⟩
  | 58 => ⟨S4x8192x3x128, .f32⟩
  | 59 => ⟨S4x8192x3x128, .f32⟩
  | 60 => ⟨S_, .f32⟩
  | 61 => ⟨S4x8192x128, .f32⟩
  | 62 => ⟨S4x8192x192, .f32⟩
  | 63 => ⟨S4x192x8192, .f32⟩
  | 64 => ⟨S4x8192x128, .f32⟩
  | 65 => ⟨S4x128x8192, .f32⟩
  | 66 => ⟨S1x128x1, .f32⟩
  | 67 => ⟨S4x128x8192, .f32⟩
  | 68 => ⟨S4x128x8192, .f32⟩
  | 69 => ⟨S_, .f32⟩
  | 70 => ⟨S128, .f32⟩
  | 71 => ⟨S1x128x1, .f32⟩
  | 72 => ⟨S_, .f32⟩
  | 73 => ⟨S1x128x1, .f32⟩
  | 74 => ⟨S1x128x1, .f32⟩
  | 75 => ⟨S4x128x8192, .f32⟩
  | 76 => ⟨S4x128x8192, .f32⟩
  | 77 => ⟨S4x128x8192, .f32⟩
  | 78 => ⟨S_, .f32⟩
  | 79 => ⟨S128, .f32⟩
  | 80 => ⟨S1x128x1, .f32⟩
  | 81 => ⟨S_, .f32⟩
  | 82 => ⟨S1x128x1, .f32⟩
  | 83 => ⟨S1x128x1, .f32⟩
  | 84 => ⟨S4x128x8192, .f32⟩
  | 85 => ⟨S4x128x8192, .f32⟩
  | 86 => ⟨S_, .f32⟩
  | 87 => ⟨S1x128x1, .f32⟩
  | 88 => ⟨S1x128x1, .f32⟩
  | 89 => ⟨S1x128x1, .f32⟩
  | 90 => ⟨S4x128x8192, .f32⟩
  | 91 => ⟨S4x128x8192, .f32⟩
  | 92 => ⟨S1x128x1, .f32⟩
  | 93 => ⟨S4x128x8192, .f32⟩
  | 94 => ⟨S4x128x8192, .f32⟩
  | 95 => ⟨S1x128x1, .f32⟩
  | 96 => ⟨S4x128x8192, .f32⟩
  | 97 => ⟨S4x128x8192, .f32⟩
  | 98 => ⟨S_, .f32⟩
  | 99 => ⟨S4x128x8192, .f32⟩
  | 100 => ⟨S4x128x8192, .f32⟩
  | 101 => ⟨S4x8192x64, .f32⟩
  | 102 => ⟨S4x64x8192, .f32⟩
  | 103 => ⟨S1x64x1, .f32⟩
  | 104 => ⟨S4x64x8192, .f32⟩
  | 105 => ⟨S4x64x8192, .f32⟩
  | 106 => ⟨S_, .f32⟩
  | 107 => ⟨S64, .f32⟩
  | 108 => ⟨S1x64x1, .f32⟩
  | 109 => ⟨S_, .f32⟩
  | 110 => ⟨S1x64x1, .f32⟩
  | 111 => ⟨S1x64x1, .f32⟩
  | 112 => ⟨S4x64x8192, .f32⟩
  | 113 => ⟨S4x64x8192, .f32⟩
  | 114 => ⟨S4x64x8192, .f32⟩
  | 115 => ⟨S_, .f32⟩
  | 116 => ⟨S64, .f32⟩
  | 117 => ⟨S1x64x1, .f32⟩
  | 118 => ⟨S_, .f32⟩
  | 119 => ⟨S1x64x1, .f32⟩
  | 120 => ⟨S1x64x1, .f32⟩
  | 121 => ⟨S4x64x8192, .f32⟩
  | 122 => ⟨S4x64x8192, .f32⟩
  | 123 => ⟨S_, .f32⟩
  | 124 => ⟨S1x64x1, .f32⟩
  | 125 => ⟨S1x64x1, .f32⟩
  | 126 => ⟨S1x64x1, .f32⟩
  | 127 => ⟨S4x64x8192, .f32⟩
  | _ => ⟨S4x8192x3, .f32⟩

abbrev hbmTy0_1 (i : Nat) : BufTy := match i % 128 with
  | 0 => ⟨S4x64x8192, .f32⟩
  | 1 => ⟨S1x64x1, .f32⟩
  | 2 => ⟨S4x64x8192, .f32⟩
  | 3 => ⟨S4x64x8192, .f32⟩
  | 4 => ⟨S1x64x1, .f32⟩
  | 5 => ⟨S4x64x8192, .f32⟩
  | 6 => ⟨S4x64x8192, .f32⟩
  | 7 => ⟨S_, .f32⟩
  | 8 => ⟨S4x64x8192, .f32⟩
  | 9 => ⟨S4x64x8192, .f32⟩
  | 10 => ⟨S4x8192x64, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_values : Ref sig .tc := ⟨.hbm, 29, rfl⟩
abbrev main_indices : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_12 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_17 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_call3_cst : Ref sig .tc := ⟨.hbm, 135, rfl⟩
abbrev main_call3_v0 : Ref sig .tc := ⟨.hbm, 136, rfl⟩
abbrev main_v95 : Ref sig .tc := ⟨.hbm, 137, rfl⟩
abbrev main_v96 : Ref sig .tc := ⟨.hbm, 138, rfl⟩

abbrev nD : Nat := 1
abbrev τ : Topo := Topo.v7x

variable {F : FTy → Type} [FloatOps F]
-- ==== Proof.KernelRun.lean ====
/- The kernel's run: it ends with its result buffer at the last contents of the walk through its stretches and regions, and
   its arguments as launched. -/
module

public import proofs.«01_k».proof.Proof.Gen.KernelIdeal.Frame

@[expose] public section

set_option maxRecDepth 16384

noncomputable section

namespace Cert.Knn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
set_option backward.isDefEq.respectTransparency.types false in
/-- Every execution of the kernel from a memory with zero counters ends with the result at `W7`, the arguments unchanged and
    every counter at zero. The launch's set-up is the frame's, its last thread state read at one more buffer. -/
theorem run : θ_run defs (onTc (τ := τ) (main (F := F))) ⟨m, fun _ => 0, ρ⟩ (fun r => (∀ c : Dev nD,
      r.2.mem ((c.tc : Thread nD τ).loc main_v15) = W7 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v15 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩), funext fun g => hz g (.inr (no_unscoped g.2))⟩)

end Cert.Knn
-- ==== Proof.Literals.lean ====
/- The float constants both programs print, as the extended reals they denote, and the word for "is a real
   number" used throughout the proof. -/
module

public import Idealize.ShloMosaic.Lib.IdealHost
public import Idealize.ShloMosaic.PureOps.Ideal.Laws

@[expose] public section

noncomputable section

namespace Cert.Knn

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rwa [max_eq_right h]
  · rwa [max_eq_left h]

theorem IsReal.sum {ι : Type} (s : Finset ι) {f : ι → EReal} (h : ∀ i, IsReal (f i)) : IsReal (∑ i ∈ s, f i) := by
  classical
  induction s using Finset.induction with
  | empty => simpa using IsReal.zero
  | insert a s ha ih => rw [Finset.sum_insert ha]; exact (h a).add ih

/-- A sum of real numbers is the same taken in the reals or in the extended reals. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- An extended real whose absolute value is below infinity is real. -/
theorem IsReal.of_abs_lt_top {x : EReal} (h : Max.max x (-x) < ⊤) : IsReal x := by
  induction x using EReal.rec with
  | bot => simp at h
  | coe r => exact ⟨r, rfl⟩
  | top => simp at h

theorem ofBits_top : Ideal.ofBits .f32 0x7F800000#32 = ⊤ := by simp [Ideal.ofBits, Ideal.ieee]

theorem ofBits_two : Ideal.ofBits .f32 0x40000000#32 = ((2 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul, -EReal.coe_neg]; norm_num

/-- The number of rows a batch norm averages over. -/
theorem ofBits_rows : Ideal.ofBits .f32 0x47000000#32 = ((32768 : ℝ) : EReal) := by
  simp [Ideal.ofBits, Ideal.ieee, -EReal.coe_mul]; norm_num

/-- The floor under a distance is a positive real. -/
theorem ofBits_tiny : ∃ r : ℝ, 0 < r ∧ Ideal.ofBits .f32 0x2EDBE6FF#32 = (r : EReal) := by
  refine ⟨14411519 / 2 ^ 57, by norm_num, ?_⟩
  simp [Ideal.ofBits, Ideal.ieee, -EReal.coe_mul]; norm_num

/-- The floor under the sum of the weights is a positive real. -/
theorem ofBits_small : ∃ r : ℝ, 0 < r ∧ Ideal.ofBits .f32 0x322BCC77#32 = (r : EReal) := by
  refine ⟨11258999 / 2 ^ 50, by norm_num, ?_⟩
  simp [Ideal.ofBits, Ideal.ieee, -EReal.coe_mul]; norm_num

/-- The number added to a variance is a positive real. -/
theorem ofBits_eps : ∃ r : ℝ, 0 < r ∧ Ideal.ofBits .f32 0x3727C5AC#32 = (r : EReal) := by
  refine ⟨10995116 / 2 ^ 40, by norm_num, ?_⟩
  simp [Ideal.ofBits, Ideal.ieee, -EReal.coe_mul]; norm_num

end Cert.Knn
-- ==== Proof.Nearest.lean ====
/- Three nearest neighbours in one row of distances: the rounds of "least entry, then that entry put out of
   the way" find the three least entries, and the weights those rounds spread over the row pick exactly three
   entries of a table. -/
module

public import proofs.«01_k».proof.Proof.Literals

@[expose] public section

noncomputable section

namespace Cert.Knn

open Idealize.ShloMosaic

variable {n : ℕ}

/-- The least entry of the row `d` (`⊤` of an empty row). -/
def low (d : Fin n → EReal) : EReal := Finset.univ.fold min ⊤ d

/-- The row `d` with every entry equal to `m` put out of the way. -/
def mask (d : Fin n → EReal) (m : EReal) : Fin n → EReal := fun k => if d k = m then ⊤ else d k

/-- The second least entry as the rounds find it. -/
def low1 (d : Fin n → EReal) : EReal := low (mask d (low d))

/-- The third least entry as the rounds find it. -/
def low2 (d : Fin n → EReal) : EReal := low (mask (mask d (low d)) (low1 d))

/-- The unscaled weight of a neighbour at distance `m`: one over `m`, with a floor under `m`. -/
def wt (m : EReal) : EReal := Ideal.div 1 (max m (Ideal.ofBits .f32 0x2EDBE6FF#32))

/-- The sum of three weights with a floor under it. -/
def total (w0 w1 w2 : EReal) : EReal := max (w0 + w1 + w2) (Ideal.ofBits .f32 0x322BCC77#32)

/-- The `i`th of the three scaled weights of neighbours at distances `m0`, `m1`, `m2`. -/
def share (m0 m1 m2 m : EReal) : EReal := Ideal.div (wt m) (total (wt m0) (wt m1) (wt m2))

/-- The weights the rounds spread over the row, summed against the table `p`. -/
def pick (d p : Fin n → EReal) : EReal :=
  ∑ k, (if d k = low d then share (low d) (low1 d) (low2 d) (low d)
    else if d k = low1 d then share (low d) (low1 d) (low2 d) (low1 d)
    else if d k = low2 d then share (low d) (low1 d) (low2 d) (low2 d) else 0) * p k

/-- `a`, `b`, `c` are the places of the three least entries of `d`, in order; the three are told apart from each
    other and from every other entry. -/
structure Nearest (d : Fin n → EReal) (a b c : Fin n) : Prop where
  ab : d a < d b
  bc : d b < d c
  rest : ∀ k, k ≠ a → k ≠ b → k ≠ c → d c < d k
  top : d c < ⊤

/-- The least entry is the one below all. -/
theorem low_eq (d : Fin n → EReal) (a : Fin n) (h : ∀ k, d a ≤ d k) : low d = d a := by
  apply le_antisymm
  · exact (Finset.fold_min_le (d a)).2 (Or.inr ⟨a, Finset.mem_univ a, le_rfl⟩)
  · exact (Finset.le_fold_min (d a)).2 ⟨le_top, fun k _ => h k⟩

namespace Nearest

variable {d : Fin n → EReal} {a b c : Fin n}

theorem low_at (h : Nearest d a b c) : low d = d a := by
  refine low_eq d a fun k => ?_
  by_cases ka : k = a
  · rw [ka]
  by_cases kb : k = b
  · rw [kb]; exact h.ab.le
  by_cases kc : k = c
  · rw [kc]; exact (h.ab.trans h.bc).le
  exact ((h.ab.trans h.bc).trans (h.rest k ka kb kc)).le

/-- Only place `a` holds the least entry. -/
theorem eq_a (h : Nearest d a b c) (k : Fin n) : d k = d a ↔ k = a := by
  refine ⟨fun e => ?_, fun e => by rw [e]⟩
  by_contra ka
  by_cases kb : k = b
  · rw [kb] at e; exact h.ab.ne e.symm
  by_cases kc : k = c
  · rw [kc] at e; exact (h.ab.trans h.bc).ne e.symm
  exact ((h.ab.trans h.bc).trans (h.rest k ka kb kc)).ne e.symm

theorem eq_b (h : Nearest d a b c) (k : Fin n) : d k = d b ↔ k = b := by
  refine ⟨fun e => ?_, fun e => by rw [e]⟩
  by_contra kb
  by_cases ka : k = a
  · rw [ka] at e; exact h.ab.ne e
  by_cases kc : k = c
  · rw [kc] at e; exact h.bc.ne e.symm
  exact (h.bc.trans (h.rest k ka kb kc)).ne e.symm

theorem eq_c (h : Nearest d a b c) (k : Fin n) : d k = d c ↔ k = c := by
  refine ⟨fun e => ?_, fun e => by rw [e]⟩
  by_contra kc
  by_cases ka : k = a
  · rw [ka] at e; exact (h.ab.trans h.bc).ne e
  by_cases kb : k = b
  · rw [kb] at e; exact h.bc.ne e
  exact (h.rest k ka kb kc).ne e.symm

theorem low1_at (h : Nearest d a b c) : low1 d = d b := by
  have hb : mask d (low d) b = d b := by
    rw [mask, h.low_at, if_neg h.ab.ne']
  rw [low1, low_eq (mask d (low d)) b, hb]
  intro k
  rw [hb, mask, h.low_at]
  split
  · exact le_top
  · rename_i e
    have ka : k ≠ a := fun q => e ((h.eq_a k).2 q)
    by_cases kb : k = b
    · rw [kb]
    by_cases kc : k = c
    · rw [kc]; exact h.bc.le
    exact (h.bc.trans (h.rest k ka kb kc)).le

theorem low2_at (h : Nearest d a b c) : low2 d = d c := by
  have ac : d c ≠ d a := (h.ab.trans h.bc).ne'
  have hc : mask (mask d (low d)) (low1 d) c = d c := by
    simp only [mask, h.low_at, h.low1_at, if_neg ac, if_neg h.bc.ne']
  rw [low2, low_eq (mask (mask d (low d)) (low1 d)) c, hc]
  intro k
  rw [hc]
  simp only [mask, h.low_at, h.low1_at]
  by_cases ka : k = a
  · rw [if_pos ((h.eq_a k).2 ka)]; split <;> exact le_top
  rw [if_neg (fun q => ka ((h.eq_a k).1 q))]
  by_cases kb : k = b
  · rw [if_pos ((h.eq_b k).2 kb)]; exact le_top
  rw [if_neg (fun q => kb ((h.eq_b k).1 q))]
  by_cases kc : k = c
  · rw [kc]
  exact (h.rest k ka kb kc).le

/-- The sum against the table is three entries of it, each by its scaled weight. -/
theorem pick_eq (h : Nearest d a b c) (p : Fin n → EReal) :
    pick d p = share (d a) (d b) (d c) (d a) * p a + share (d a) (d b) (d c) (d b) * p b
      + share (d a) (d b) (d c) (d c) * p c := by
  have hab : a ≠ b := fun e => h.ab.ne (by rw [e])
  have hbc : b ≠ c := fun e => h.bc.ne (by rw [e])
  have hac : a ≠ c := fun e => (h.ab.trans h.bc).ne (by rw [e])
  unfold pick
  rw [h.low_at, h.low1_at, h.low2_at]
  generalize share (d a) (d b) (d c) (d a) = w0
  generalize share (d a) (d b) (d c) (d b) = w1
  generalize share (d a) (d b) (d c) (d c) = w2
  have e : ∀ k : Fin n, (if d k = d a then w0 else if d k = d b then w1 else if d k = d c then w2 else 0) * p k
      = (if k = a then w0 * p k else 0) + (if k = b then w1 * p k else 0) + (if k = c then w2 * p k else 0) := by
    intro k
    simp only [h.eq_a, h.eq_b, h.eq_c]
    by_cases ka : k = a
    · subst ka; simp [hab, hac]
    by_cases kb : k = b
    · subst kb; simp [hbc, ka]
    by_cases kc : k = c
    · subst kc; simp [ka, kb]
    simp [ka, kb, kc]
  rw [Finset.sum_congr rfl fun k _ => e k, Finset.sum_add_distrib, Finset.sum_add_distrib]
  simp

end Nearest

/-- A weight is a positive real at any distance below infinity. -/
theorem wt_pos {m : EReal} (h : m < ⊤) : ∃ r : ℝ, 0 < r ∧ wt m = (r : EReal) := by
  obtain ⟨t, ht, e⟩ := ofBits_tiny
  have : ∃ q : ℝ, 0 < q ∧ max m (t : EReal) = (q : EReal) := by
    induction m using EReal.rec with
    | bot => exact ⟨t, ht, by simp⟩
    | coe r => exact ⟨max r t, lt_max_of_lt_right ht, by rcases le_total r t with q | q <;> simp [q]⟩
    | top => simp at h
  obtain ⟨q, hq, hq'⟩ := this
  exact ⟨1 / q, by positivity, by rw [wt, e, hq', Ideal.div_coe hq.ne', one_mul]⟩

/-- A scaled weight is real when the three distances are below infinity. -/
theorem share_real {m0 m1 m2 m : EReal} (h0 : m0 < ⊤) (h1 : m1 < ⊤) (h2 : m2 < ⊤) (h : m < ⊤) :
    IsReal (share m0 m1 m2 m) := by
  obtain ⟨t, ht, e⟩ := ofBits_small
  obtain ⟨a, ha, ea⟩ := wt_pos h0
  obtain ⟨b, hb, eb⟩ := wt_pos h1
  obtain ⟨c, hc, ec⟩ := wt_pos h2
  obtain ⟨w, hw, ew⟩ := wt_pos h
  have : total (wt m0) (wt m1) (wt m2) = ((max (a + b + c) t : ℝ) : EReal) := by
    rw [total, e, ea, eb, ec, ← EReal.coe_add, ← EReal.coe_add]
    rcases le_total (a + b + c) t with q | q <;> simp only [q, max_eq_left, max_eq_right, EReal.coe_le_coe_iff]
  have hp : (0 : ℝ) < max (a + b + c) t := lt_max_of_lt_right ht
  exact ⟨w * (1 / max (a + b + c) t), by rw [share, this, Ideal.div_coe hp.ne', ew, EReal.coe_mul]⟩

/-- What is picked from a table of reals is real. -/
theorem Nearest.pick_real {d : Fin n → EReal} {a b c : Fin n} (h : Nearest d a b c) {p : Fin n → EReal}
    (hp : ∀ k, IsReal (p k)) : IsReal (pick d p) := by
  have tb : d b < ⊤ := h.bc.trans h.top
  have ta : d a < ⊤ := h.ab.trans tb
  rw [h.pick_eq p]
  exact (((share_real ta tb h.top ta).mul (hp a)).add ((share_real ta tb h.top tb).mul (hp b))).add
    ((share_real ta tb h.top h.top).mul (hp c))

end Cert.Knn
-- ==== Proof.Norm.lean ====
/- Batch normalisation of one column of real numbers: the one-pass form (scale and shift from the sum and the sum of
   squares) equals the two-pass form (centre, mean square of the centred column, square root, then gain and bias). -/
module

public import proofs.«01_k».proof.Proof.Literals

@[expose] public section

noncomputable section

namespace Cert.Knn

open Idealize.ShloMosaic

/-- The number of rows, as printed. -/
abbrev rowsN : EReal := Ideal.ofBits .f32 0x47000000#32

/-- The number added to a variance, as printed. -/
abbrev epsN : EReal := Ideal.ofBits .f32 0x3727C5AC#32

/-- The gain of the one-pass form, from the column's sum `s` and sum of squares `ss` and the gain `g`. -/
def scaleOf (s ss g : EReal) : EReal :=
  g * Ideal.rsqrt (Ideal.div ss rowsN - Ideal.div s rowsN * Ideal.div s rowsN + epsN)

/-- The one-pass form at an entry `x`, with the negative part cut off. -/
def onePass (s ss g β x : EReal) : EReal :=
  max (x * scaleOf s ss g + (β - Ideal.div s rowsN * scaleOf s ss g)) 0

/-- The centred entry of the two-pass form. -/
def centred (s x : EReal) : EReal := x - Ideal.div s rowsN

/-- The two-pass form at an entry `x`, from the column's sum `s` and the sum `q` of the centred squares. -/
def twoPass (s q g β x : EReal) : EReal :=
  max (Ideal.div (centred s x) (Ideal.sqrt (Ideal.div q rowsN + epsN)) * g + β) 0

/-- The sum of the centred squares is the sum of squares less the square of the mean, `N` times. -/
theorem centred_sum {ι : Type} [Fintype ι] (r : ι → ℝ) (N : ℝ) (hN : N = Fintype.card ι) (h0 : N ≠ 0) :
    (∑ i, (r i - (∑ j, r j) / N) * (r i - (∑ j, r j) / N)) / N
      = (∑ i, r i * r i) / N - (∑ i, r i) / N * ((∑ i, r i) / N) := by
  have e : ∀ i, (r i - (∑ j, r j) / N) * (r i - (∑ j, r j) / N)
      = r i * r i - 2 * ((∑ j, r j) / N) * r i + (∑ j, r j) / N * ((∑ j, r j) / N) := fun i => by ring
  rw [Finset.sum_congr rfl fun i _ => e i, Finset.sum_add_distrib, Finset.sum_sub_distrib, ← Finset.mul_sum,
    Finset.sum_const, Finset.card_univ, nsmul_eq_mul, ← hN]
  field_simp
  ring

/-- The variance is not negative. -/
theorem var_nonneg {ι : Type} [Fintype ι] (r : ι → ℝ) (N : ℝ) (hN : N = Fintype.card ι) (h0 : 0 < N) :
    0 ≤ (∑ i, r i * r i) / N - (∑ i, r i) / N * ((∑ i, r i) / N) := by
  rw [← centred_sum r N hN h0.ne']
  exact div_nonneg (Finset.sum_nonneg fun i _ => mul_self_nonneg _) h0.le

/-- The gain of the one-pass form over a real column. -/
theorem scaleOf_real {ι : Type} [Fintype ι] (hc : Fintype.card ι = 32768) (r : ι → ℝ) (g : ℝ) :
    ∃ v : ℝ, 0 < v ∧ Ideal.ofBits .f32 0x3727C5AC#32 = ((v - ((∑ i, r i * r i) / 32768
        - (∑ i, r i) / 32768 * ((∑ i, r i) / 32768)) : ℝ) : EReal)
      ∧ scaleOf (∑ i, (r i : EReal)) (∑ i, (r i : EReal) * (r i : EReal)) (g : EReal)
        = ((g * (Real.sqrt v)⁻¹ : ℝ) : EReal) := by
  obtain ⟨e, he, ee⟩ := ofBits_eps
  have hv := var_nonneg r 32768 (by rw [hc]; norm_num) (by norm_num)
  set w := (∑ i, r i * r i) / 32768 - (∑ i, r i) / 32768 * ((∑ i, r i) / 32768) with hw
  have hp : 0 < w + e := by linarith
  refine ⟨w + e, hp, by rw [ee]; congr 1; ring, ?_⟩
  simp only [← EReal.coe_mul, ← coe_sum]
  rw [scaleOf, rowsN, epsN, ofBits_rows, ee, Ideal.div_coe (by norm_num), Ideal.div_coe (by norm_num)]
  simp only [← EReal.coe_mul, ← EReal.coe_sub, ← EReal.coe_add]
  have : (∑ i, r i * r i) * (1 / 32768) - (∑ i, r i) * (1 / 32768) * ((∑ i, r i) * (1 / 32768)) + e = w + e := by
    rw [hw]; ring
  rw [this, Ideal.rsqrt_coe, if_neg hp.not_gt, if_neg hp.ne', ← EReal.coe_mul]

/-- The one-pass form of a real column with a real gain equals the two-pass form, whatever the bias is. -/
theorem onePass_eq_twoPass {ι : Type} [Fintype ι] (hc : Fintype.card ι = 32768) (x : ι → EReal) (hx : ∀ i, IsReal (x i))
    (g β : EReal) (hg : IsReal g) (i : ι) :
    onePass (∑ j, x j) (∑ j, x j * x j) g β (x i)
      = twoPass (∑ j, x j) (∑ j, centred (∑ l, x l) (x j) * centred (∑ l, x l) (x j)) g β (x i) := by
  choose r hr using hx
  obtain rfl : x = fun i => (r i : EReal) := funext hr
  obtain ⟨g, rfl⟩ := hg
  obtain ⟨v, hv, ev, es⟩ := scaleOf_real hc r g
  have hvar := centred_sum r 32768 (by rw [hc]; norm_num) (by norm_num)
  have hm : Ideal.div (∑ j, (r j : EReal)) rowsN = (((∑ j, r j) / 32768 : ℝ) : EReal) := by
    rw [rowsN, ofBits_rows, ← coe_sum, Ideal.div_coe (by norm_num), ← EReal.coe_mul]; congr 1; ring
  unfold onePass twoPass
  dsimp only
  rw [es]
  simp only [centred, hm]
  simp only [← EReal.coe_sub, ← EReal.coe_mul, ← coe_sum]
  rw [epsN, ev, rowsN, ofBits_rows, Ideal.div_coe (by norm_num), ← EReal.coe_mul, ← EReal.coe_add]
  have hq : (∑ i, (r i - (∑ j, r j) / 32768) * (r i - (∑ j, r j) / 32768)) * (1 / 32768)
      + (v - ((∑ i, r i * r i) / 32768 - (∑ i, r i) / 32768 * ((∑ i, r i) / 32768))) = v := by
    rw [← hvar]; ring
  rw [hq]
  have hs : Ideal.sqrt (v : EReal) = ((Real.sqrt v : ℝ) : EReal) := by
    show (if v < 0 then (⊥ : EReal) else _) = _
    rw [if_neg hv.not_gt]
  have hs0 : Real.sqrt v ≠ 0 := (Real.sqrt_pos.2 hv).ne'
  rw [hs, Ideal.div_coe hs0, ← EReal.coe_mul, ← EReal.coe_mul]
  congr 1
  induction β using EReal.rec with
  | bot => simp [sub_eq_add_neg]
  | top => rw [EReal.top_sub_coe, EReal.coe_add_top, EReal.coe_add_top]
  | coe b =>
    simp only [← EReal.coe_sub, ← EReal.coe_add]
    congr 1
    field_simp
    ring

/-- The one-pass form of a real column with a real gain and a bias below infinity is real. -/
theorem onePass_real {ι : Type} [Fintype ι] (hc : Fintype.card ι = 32768) (x : ι → EReal) (hx : ∀ i, IsReal (x i))
    (g β : EReal) (hg : IsReal g) (hβ : β < ⊤) (i : ι) : IsReal (onePass (∑ j, x j) (∑ j, x j * x j) g β (x i)) := by
  choose r hr using hx
  obtain rfl : x = fun i => (r i : EReal) := funext hr
  obtain ⟨g, rfl⟩ := hg
  obtain ⟨v, hv, ev, es⟩ := scaleOf_real hc r g
  have hm : Ideal.div (∑ j, (r j : EReal)) rowsN = (((∑ j, r j) / 32768 : ℝ) : EReal) := by
    rw [rowsN, ofBits_rows, ← coe_sum, Ideal.div_coe (by norm_num), ← EReal.coe_mul]; congr 1; ring
  unfold onePass
  dsimp only
  rw [es, hm, ← EReal.coe_mul, ← EReal.coe_mul]
  induction β using EReal.rec with
  | bot => exact ⟨0, by simp [sub_eq_add_neg]⟩
  | top => simp at hβ
  | coe b =>
    rw [← EReal.coe_sub, ← EReal.coe_add]
    exact (IsReal.coe _).max IsReal.zero

end Cert.Knn
-- ==== Proof.Rows.lean ====
/- The 32768 rows (four batches of 8192 queries, counted batch after batch) and sums over them, block of rows by block. -/
module

public import Mathlib.Data.EReal.Operations
public import Mathlib.Algebra.BigOperators.Fin
public import Mathlib.Algebra.BigOperators.Intervals

@[expose] public section

noncomputable section

namespace Cert.Knn

/-- The batch of a row. -/
def bOf (R : Fin 32768) : Fin 4 := ⟨R.val / 8192, by omega⟩

/-- The query of a row within its batch. -/
def nOf (R : Fin 32768) : Fin 8192 := ⟨R.val % 8192, by omega⟩

/-- The row of a batch and a query. -/
def rowAt (b : Fin 4) (n : Fin 8192) : Fin 32768 := ⟨b.val * 8192 + n.val, by omega⟩

theorem bOf_rowAt (b : Fin 4) (n : Fin 8192) : bOf (rowAt b n) = b := Fin.ext (by simp only [bOf, rowAt]; omega)
theorem nOf_rowAt (b : Fin 4) (n : Fin 8192) : nOf (rowAt b n) = n := Fin.ext (by simp only [nOf, rowAt]; omega)
theorem rowAt_of (R : Fin 32768) : rowAt (bOf R) (nOf R) = R := Fin.ext (by simp only [bOf, nOf, rowAt]; omega)

/-- Rows are batches and queries. -/
def rowEquiv : Fin 4 × Fin 8192 ≃ Fin 32768 where
  toFun p := rowAt p.1 p.2
  invFun R := (bOf R, nOf R)
  left_inv p := by simp only [bOf_rowAt, nOf_rowAt]
  right_inv R := rowAt_of R

/-- Row `r` of the `t`-th block of 2048 rows. -/
def rowIn (t : ℕ) (ht : t < 16) (r : Fin 2048) : Fin 32768 := ⟨2048 * t + r.val, by omega⟩

/-- The sum of the first `n` rows. -/
def upto (f : Fin 32768 → EReal) (n : ℕ) : EReal := ∑ R ∈ Finset.range n, if h : R < 32768 then f ⟨R, h⟩ else 0

theorem upto_zero (f : Fin 32768 → EReal) : upto f 0 = 0 := Finset.sum_range_zero _

/-- One more block of rows. -/
theorem upto_block (f : Fin 32768 → EReal) (t : ℕ) (ht : t < 16) :
    upto f (2048 * (t + 1)) = upto f (2048 * t) + ∑ r : Fin 2048, f (rowIn t ht r) := by
  unfold upto
  rw [show 2048 * (t + 1) = 2048 * t + 2048 by ring, Finset.sum_range_add, ← Fin.sum_univ_eq_sum_range
    (fun x => if h : 2048 * t + x < 32768 then f ⟨2048 * t + x, h⟩ else 0) 2048]
  congr 1
  refine Finset.sum_congr rfl fun r _ => ?_
  rw [dif_pos (show 2048 * t + r.val < 32768 by omega)]
  rfl

/-- The sum of all blocks is the sum of all rows. -/
theorem upto_all (f : Fin 32768 → EReal) : upto f (2048 * (15 + 1)) = ∑ R, f R := by
  unfold upto
  rw [show 2048 * (15 + 1) = 32768 by norm_num, ← Fin.sum_univ_eq_sum_range
    (fun x => if h : x < 32768 then f ⟨x, h⟩ else 0) 32768]
  refine Finset.sum_congr rfl fun R _ => ?_
  rw [dif_pos R.isLt]

end Cert.Knn
-- ==== Proof.Model.lean ====
/- The function both programs compute, over the rows: the distances of the queries, the three nearest reference points'
   features mixed by inverse distance, two linear layers, each followed by a batch norm (in the one-pass form) and a
   rectifier. -/
module

public import proofs.«01_k».proof.Proof.Nearest
public import proofs.«01_k».proof.Proof.Norm
public import proofs.«01_k».proof.Proof.Rows
public import Idealize.ShloMosaic.Lib.Pointwise

@[expose] public section

noncomputable section

namespace Cert.Knn

open Idealize.ShloMosaic

/-- The squared distance of the points `a` and `b` by its expansion. -/
def sqDist (a b : Fin 3 → EReal) : EReal :=
  ∑ k, a k * a k - Ideal.ofBits .f32 0x40000000#32 * ∑ k, a k * b k + ∑ k, b k * b k

/-- The first linear layer at one query and one output: the query's own features and the picked features, each by its
    part of the weights, and the bias. -/
def layer0 (d : Fin 2048 → EReal) (p1 : Fin 64 → EReal) (p2 : Fin 2048 → Fin 128 → EReal) (wa : Fin 64 → EReal)
    (wb : Fin 128 → EReal) (b : EReal) : EReal :=
  ∑ k, p1 k * wa k + ∑ k, pick d (fun m => p2 m k) * wb k + b

theorem layer0_congr {d d' : Fin 2048 → EReal} {p1 p1' : Fin 64 → EReal} {p2 p2' : Fin 2048 → Fin 128 → EReal}
    {wa wa' : Fin 64 → EReal} {wb wb' : Fin 128 → EReal} {b b' : EReal} (hd : ∀ m, d m = d' m) (h1 : ∀ k, p1 k = p1' k)
    (h2 : ∀ m k, p2 m k = p2' m k) (ha : ∀ k, wa k = wa' k) (hb : ∀ k, wb k = wb' k) (h : b = b') :
    layer0 d p1 p2 wa wb b = layer0 d' p1' p2' wa' wb' b' := by
  obtain rfl : d = d' := funext hd
  obtain rfl : p1 = p1' := funext h1
  obtain rfl : p2 = p2' := funext fun m => funext (h2 m)
  obtain rfl : wa = wa' := funext ha
  obtain rfl : wb = wb' := funext hb
  rw [h]

theorem sqDist_congr {a a' b b' : Fin 3 → EReal} (ha : ∀ k, a k = a' k) (hb : ∀ k, b k = b' k) :
    sqDist a b = sqDist a' b' := by
  rw [funext ha, funext hb]

theorem onePass_congr {s s' ss ss' g g' β β' x x' : EReal} (hs : s = s') (hss : ss = ss') (hg : g = g') (hβ : β = β')
    (hx : x = x') : onePass s ss g β x = onePass s' ss' g' β' x' := by
  rw [hs, hss, hg, hβ, hx]

/-- The arguments, element by element. -/
structure Args where
  xyz1 : Fin 4 → Fin 8192 → Fin 3 → EReal
  xyz2 : Fin 4 → Fin 2048 → Fin 3 → EReal
  p1 : Fin 4 → Fin 8192 → Fin 64 → EReal
  p2 : Fin 4 → Fin 2048 → Fin 128 → EReal
  w0 : Fin 128 → Fin 192 → EReal
  b0 : Fin 128 → EReal
  g0 : Fin 128 → EReal
  β0 : Fin 128 → EReal
  w1 : Fin 64 → Fin 128 → EReal
  b1 : Fin 64 → EReal
  g1 : Fin 64 → EReal
  β1 : Fin 64 → EReal

variable (A : Args)

/-- The squared distances of a row's query to the reference points of its batch. -/
def Args.dist (R : Fin 32768) (m : Fin 2048) : EReal := sqDist (A.xyz1 (bOf R) (nOf R)) (A.xyz2 (bOf R) m)

/-- The first linear layer. -/
def Args.Y0 (R : Fin 32768) (o : Fin 128) : EReal :=
  layer0 (A.dist R) (A.p1 (bOf R) (nOf R)) (A.p2 (bOf R)) (fun k => A.w0 o ⟨k.val, by omega⟩)
    (fun k => A.w0 o ⟨64 + k.val, by omega⟩) (A.b0 o)

/-- The first layer normalised and rectified. -/
def Args.Z0 (R : Fin 32768) (o : Fin 128) : EReal :=
  onePass (∑ Q, A.Y0 Q o) (∑ Q, A.Y0 Q o * A.Y0 Q o) (A.g0 o) (A.β0 o) (A.Y0 R o)

/-- The second linear layer. -/
def Args.Y1 (R : Fin 32768) (o : Fin 64) : EReal := ∑ k, A.Z0 R k * A.w1 o k + A.b1 o

/-- The second layer normalised and rectified: the result. -/
def Args.Z1 (R : Fin 32768) (o : Fin 64) : EReal :=
  onePass (∑ Q, A.Y1 Q o) (∑ Q, A.Y1 Q o * A.Y1 Q o) (A.g1 o) (A.β1 o) (A.Y1 R o)

end Cert.Knn
-- ==== Proof.Arguments.lean ====
/- The model's arguments from the arrays both programs take. -/
module

public import proofs.«01_k».proof.Proof.Model

@[expose] public section

noncomputable section

namespace Cert.Knn

open Idealize.ShloMosaic

/-- The arguments' arrays, element by element. -/
def argsOf (a0 : Vec Ideal ⟨3, ![4, 8192, 3]⟩ .f32) (a1 : Vec Ideal ⟨3, ![4, 2048, 3]⟩ .f32)
    (a2 : Vec Ideal ⟨3, ![4, 8192, 64]⟩ .f32) (a3 : Vec Ideal ⟨3, ![4, 2048, 128]⟩ .f32)
    (a4 : Vec Ideal ⟨2, ![128, 192]⟩ .f32) (a5 a6 a7 : Vec Ideal ⟨1, ![128]⟩ .f32) (a8 : Vec Ideal ⟨2, ![64, 128]⟩ .f32)
    (a9 a10 a11 : Vec Ideal ⟨1, ![64]⟩ .f32) : Args where
  xyz1 b n k := a0 (ix3 b n k)
  xyz2 b m k := a1 (ix3 b m k)
  p1 b n k := a2 (ix3 b n k)
  p2 b m k := a3 (ix3 b m k)
  w0 o k := a4 (ix2 o k)
  b0 o := a5 (ix1 o)
  g0 o := a6 (ix1 o)
  β0 o := a7 (ix1 o)
  w1 o k := a8 (ix2 o k)
  b1 o := a9 (ix1 o)
  g1 o := a10 (ix1 o)
  β1 o := a11 (ix1 o)

end Cert.Knn
-- ==== Proof.Host.lean ====
/- What the kernel's host stretches leave in the buffers its regions read: slices and transposes of the weights, and the
   vectors under one more unit axis. -/
module

public import proofs.«01_k».proof.Proof.Gen.KernelIdeal.Frame
public import proofs.«01_k».proof.Proof.Rows
public import Idealize.ShloMosaic.Lib.Pointwise
public import Idealize.ShloMosaic.Lib.StableHlo.ReadAt

@[expose] public section

set_option maxRecDepth 16384

noncomputable section

namespace Cert.Knn

open Idealize.ShloMosaic Idealize.ShloMosaic.TcCoe Cert.KernelIdeal Cert.KernelIdeal.Gen

variable (X : Valuation τ sig (Elt Ideal))

/-- The weights of the queries' own features, transposed. -/
theorem host_v1 (k : Fin 64) (o : Fin 128) :
    (StableHlo.after hostOps0 X (Proc.devRef .tc main_v1) : Vec Ideal S64x128 .f32) (ix2 k o)
      = (X (Proc.devRef .tc main_arg4) : Vec Ideal S128x192 .f32) (ix2 o ⟨k.val, by omega⟩) := by
  after_reads_at

/-- The weights of the picked features, transposed. -/
theorem host_v3 (k o : Fin 128) :
    (StableHlo.after hostOps0 X (Proc.devRef .tc main_v3) : Vec Ideal S128x128 .f32) (ix2 k o)
      = (X (Proc.devRef .tc main_arg4) : Vec Ideal S128x192 .f32) (ix2 o ⟨64 + k.val, by omega⟩) := by
  after_reads_at

/-- The second layer's weights, transposed. -/
theorem host_v4 (k : Fin 128) (o : Fin 64) :
    (StableHlo.after hostOps0 X (Proc.devRef .tc main_v4) : Vec Ideal S128x64 .f32) (ix2 k o)
      = (X (Proc.devRef .tc main_arg8) : Vec Ideal S64x128 .f32) (ix2 o k) := by
  after_reads_at

theorem host_v5 (o : Fin 128) :
    (StableHlo.after hostOps0 X (Proc.devRef .tc main_v5) : Vec Ideal S1x128 .f32) (ix2 0 o)
      = (X (Proc.devRef .tc main_arg5) : Vec Ideal S128 .f32) (ix1 o) := by
  after_reads_at

/-- The first layer's array as rows. -/
theorem host_v7 (R : Fin 32768) (o : Fin 128) :
    (StableHlo.after hostOps1 X (Proc.devRef .tc main_v7) : Vec Ideal S32768x128 .f32) (ix2 R o)
      = (X (Proc.devRef .tc main_v6_0) : Vec Ideal S4x8192x128 .f32) (ix3 (bOf R) (nOf R) o) := by
  after_reads_at
  rfl

theorem host_v8 (o : Fin 128) :
    (StableHlo.after hostOps1 X (Proc.devRef .tc main_v8) : Vec Ideal S1x128 .f32) (ix2 0 o)
      = (X (Proc.devRef .tc main_arg6) : Vec Ideal S128 .f32) (ix1 o) := by
  after_reads_at

theorem host_v9 (o : Fin 128) :
    (StableHlo.after hostOps1 X (Proc.devRef .tc main_v9) : Vec Ideal S1x128 .f32) (ix2 0 o)
      = (X (Proc.devRef .tc main_arg7) : Vec Ideal S128 .f32) (ix1 o) := by
  after_reads_at

theorem host_v10 (o : Fin 64) :
    (StableHlo.after hostOps1 X (Proc.devRef .tc main_v10) : Vec Ideal S1x64 .f32) (ix2 0 o)
      = (X (Proc.devRef .tc main_arg9) : Vec Ideal S64 .f32) (ix1 o) := by
  after_reads_at

theorem host_v12 (o : Fin 64) :
    (StableHlo.after hostOps2 X (Proc.devRef .tc main_v12) : Vec Ideal S1x64 .f32) (ix2 0 o)
      = (X (Proc.devRef .tc main_arg10) : Vec Ideal S64 .f32) (ix1 o) := by
  after_reads_at

theorem host_v13 (o : Fin 64) :
    (StableHlo.after hostOps2 X (Proc.devRef .tc main_v13) : Vec Ideal S1x64 .f32) (ix2 0 o)
      = (X (Proc.devRef .tc main_arg11) : Vec Ideal S64 .f32) (ix1 o) := by
  after_reads_at

/-- The rows as batches of queries: the result. -/
theorem host_v15 (b : Fin 4) (n : Fin 8192) (o : Fin 64) :
    (StableHlo.after hostOps3 X (Proc.devRef .tc main_v15) : Vec Ideal S4x8192x64 .f32) (ix3 b n o)
      = (X (Proc.devRef .tc main_v14) : Vec Ideal S32768x64 .f32) (ix2 (rowAt b n) o) := by
  after_reads_at
  rfl

end Cert.Knn
-- ==== Proof.Payload0.lean ====
/- What the first region's body computes from its blocks, entry by entry: the squared distances of a block of queries
   to the reference points, the three least of each row, and the first linear layer. -/
module

public import proofs.«01_k».proof.Proof.Gen.KernelIdeal.Skeleton
public import proofs.«01_k».proof.Proof.Model
public import Idealize.ShloMosaic.Lib.Pointwise

@[expose] public section

set_option maxRecDepth 16384

noncomputable section

namespace Cert.Knn

open Idealize.ShloMosaic Cert.KernelIdeal Cert.KernelIdeal.Gen

/-- A block of distances: entry `(r, m)` is the squared distance of query `r` to reference point `m`. -/
theorem pay7_apply (v0 v2 : Vec Ideal S1x2048x3 .f32) (r m : Fin 2048) :
    k0_pay7 v0 v2 (ix2 r m) = sqDist (fun k => v0 (ix3 0 r k)) (fun k => v2 (ix3 0 m k)) := by
  pointwise [k0_pay7, sqDist]

/-- Row `r` of a block of distances. -/
abbrev row (v0 v2 : Vec Ideal S1x2048x3 .f32) (r : Fin 2048) : Fin 2048 → EReal := fun m => k0_pay7 v0 v2 (ix2 r m)

/-- The first round's least entry of a row. -/
theorem pay8_apply (v0 v2 : Vec Ideal S1x2048x3 .f32) (r : Fin 2048) :
    k0_pay8 v0 v2 (ix2 r 0) = low (row v0 v2 r) := by
  pointwise [k0_pay8]
  rw [ofBits_top]; rfl

/-- The row once its least entry is out of the way. -/
theorem pay9_apply (v0 v2 : Vec Ideal S1x2048x3 .f32) (r m : Fin 2048) :
    k0_pay9 v0 v2 (ix2 r m) = mask (row v0 v2 r) (low (row v0 v2 r)) m := by
  pointwise [k0_pay9]
  rw [ofBits_top, pay8_apply]; rfl

/-- The second round's least entry of a row. -/
theorem pay10_apply (v0 v2 : Vec Ideal S1x2048x3 .f32) (r : Fin 2048) :
    k0_pay10 v0 v2 (ix2 r 0) = low1 (row v0 v2 r) := by
  pointwise [k0_pay10]
  simp only [ofBits_top, pay9_apply]; rfl

/-- The third round's least entry of a row. -/
theorem pay11_apply (v0 v2 : Vec Ideal S1x2048x3 .f32) (r : Fin 2048) :
    k0_pay11 v0 v2 (ix2 r 0) = low2 (row v0 v2 r) := by
  pointwise [k0_pay11]
  simp only [ofBits_top, pay9_apply, pay10_apply]; rfl

/-- The weights the body gives the entries of a row: its three least get their shares, the others nothing. -/
theorem pay16_apply (d : FVec Ideal S2048x2048 .f32) (m0 m1 m2 t0 t1 t2 e : FVec Ideal S2048x1 .f32)
    (p2 : Vec Ideal S1x2048x128 .f32) (p1 : Vec Ideal S1x2048x64 .f32)
    (wa : Vec Ideal S64x128 .f32) (wb : Vec Ideal S128x128 .f32) (r : Fin 2048) (o : Fin 128) :
    k0_pay16 d m0 m1 m2 t0 t1 t2 e p2 p1 wa wb (ix2 r o)
      = ∑ k, p1 (ix3 0 r k) * wa (ix2 k o)
        + ∑ k : Fin 128, (∑ m : Fin 2048,
            (if d (ix2 r m) = m0 (ix2 r 0) then
                Ideal.div (Ideal.div (e (ix2 r 0)) (t0 (ix2 r 0)))
                  (total (Ideal.div (e (ix2 r 0)) (t0 (ix2 r 0))) (Ideal.div 1 (t1 (ix2 r 0))) (Ideal.div 1 (t2 (ix2 r 0))))
              else if d (ix2 r m) = m1 (ix2 r 0) then
                Ideal.div (Ideal.div 1 (t1 (ix2 r 0)))
                  (total (Ideal.div (e (ix2 r 0)) (t0 (ix2 r 0))) (Ideal.div 1 (t1 (ix2 r 0))) (Ideal.div 1 (t2 (ix2 r 0))))
              else if d (ix2 r m) = m2 (ix2 r 0) then
                Ideal.div (Ideal.div 1 (t2 (ix2 r 0)))
                  (total (Ideal.div (e (ix2 r 0)) (t0 (ix2 r 0))) (Ideal.div 1 (t1 (ix2 r 0))) (Ideal.div 1 (t2 (ix2 r 0))))
              else 0) * p2 (ix3 0 m k)) * wb (ix2 k o) := by
  pointwise [k0_pay16, total]

/-- A column kept above a literal, at a row. -/
theorem floor_apply (x : FVec Ideal S2048x1 .f32) (w : BitVec 32) (r : Fin 2048) :
    maximumf x (broadcast S2048x1 (Scalar.ofBits (F := Ideal) .f32 w)) (ix2 r 0)
      = max (x (ix2 r 0)) (Ideal.ofBits .f32 w) := rfl

theorem pay12_apply (v0 v2 : Vec Ideal S1x2048x3 .f32) (r : Fin 2048) :
    k0_pay12 v0 v2 (ix2 r 0) = max (k0_pay8 v0 v2 (ix2 r 0)) (Ideal.ofBits .f32 0x2EDBE6FF#32) := by
  unfold k0_pay12
  exact floor_apply _ _ r

theorem pay13_apply (v0 v2 : Vec Ideal S1x2048x3 .f32) (r : Fin 2048) :
    k0_pay13 v0 v2 (ix2 r 0) = max (k0_pay10 v0 v2 (ix2 r 0)) (Ideal.ofBits .f32 0x2EDBE6FF#32) := by
  unfold k0_pay13
  exact floor_apply _ _ r

theorem pay14_apply (v0 v2 : Vec Ideal S1x2048x3 .f32) (r : Fin 2048) :
    k0_pay14 v0 v2 (ix2 r 0) = max (k0_pay11 v0 v2 (ix2 r 0)) (Ideal.ofBits .f32 0x2EDBE6FF#32) := by
  unfold k0_pay14
  exact floor_apply _ _ r

theorem pay15_apply (r : Fin 2048) : k0_pay15 (F := Ideal) (ix2 r 0) = 1 := by
  pointwise [k0_pay15]

/-- The body's block of the first linear layer, from the blocks it loads. -/
abbrev lin0 (v0 v2 : Vec Ideal S1x2048x3 .f32) (p2 : Vec Ideal S1x2048x128 .f32) (p1 : Vec Ideal S1x2048x64 .f32)
    (wa : Vec Ideal S64x128 .f32) (wb : Vec Ideal S128x128 .f32) : FVec Ideal S2048x128 .f32 :=
  k0_pay16 (k0_pay7 v0 v2) (k0_pay8 v0 v2) (k0_pay10 v0 v2) (k0_pay11 v0 v2) (k0_pay12 v0 v2) (k0_pay13 v0 v2)
    (k0_pay14 v0 v2) k0_pay15 p2 p1 wa wb

/-- Adding the bias. -/
theorem pay1_bias (v78 : FVec Ideal S2048x128 .f32) (b : Vec Ideal S1x128 .f32) (r : Fin 2048) (o : Fin 128) :
    k0_pay1 v78 b (ix2 r o) = v78 (ix2 r o) + b (ix2 0 o) := by
  pointwise [k0_pay1]

/-- Entry `(r, o)` of the body's block of the first linear layer, bias added. -/
theorem pay1_apply (v0 v2 : Vec Ideal S1x2048x3 .f32) (p2 : Vec Ideal S1x2048x128 .f32) (p1 : Vec Ideal S1x2048x64 .f32)
    (wa : Vec Ideal S64x128 .f32) (wb : Vec Ideal S128x128 .f32) (b : Vec Ideal S1x128 .f32) (r : Fin 2048) (o : Fin 128) :
    k0_pay1 (lin0 v0 v2 p2 p1 wa wb) b (ix2 r o)
      = layer0 (row v0 v2 r) (fun k => p1 (ix3 0 r k)) (fun m k => p2 (ix3 0 m k)) (fun k => wa (ix2 k o))
          (fun k => wb (ix2 k o)) (b (ix2 0 o)) := by
  rw [pay1_bias]
  unfold lin0
  rw [pay16_apply, pay12_apply, pay13_apply, pay14_apply, pay15_apply, pay8_apply, pay10_apply, pay11_apply]
  unfold layer0 pick share wt
  rfl

/-- The block the body stores: the same entries under one more unit axis. -/
theorem pay2_apply (v78 : FVec Ideal S2048x128 .f32) (b : Vec Ideal S1x128 .f32) (r : Fin 2048) (o : Fin 128) :
    k0_pay2 v78 b (ix3 0 r o) = k0_pay1 v78 b (ix2 r o) := by
  pointwise [k0_pay2]

/-- The two rows the first point starts from are zero. -/
theorem pay3_apply (o : Fin 128) : k0_pay3 (F := Ideal) (ix2 0 o) = 0 := by
  pointwise [k0_pay3]

theorem pay4_apply (o : Fin 128) : k0_pay4 (F := Ideal) (ix2 0 o) = 0 := by
  pointwise [k0_pay4]

/-- The sum carried over the points gains the block's column sums. -/
theorem pay5_apply (v78 : FVec Ideal S2048x128 .f32) (b a : Vec Ideal S1x128 .f32) (o : Fin 128) :
    k0_pay5 v78 b a (ix2 0 o) = a (ix2 0 o) + ∑ r : Fin 2048, k0_pay1 v78 b (ix2 r o) := by
  pointwise [k0_pay5]

/-- The sum of squares carried over the points gains the block's column sums of squares. -/
theorem pay6_apply (v78 : FVec Ideal S2048x128 .f32) (b a : Vec Ideal S1x128 .f32) (o : Fin 128) :
    k0_pay6 v78 b a (ix2 0 o) = a (ix2 0 o) + ∑ r : Fin 2048, k0_pay1 v78 b (ix2 r o) * k0_pay1 v78 b (ix2 r o) := by
  pointwise [k0_pay6]

end Cert.Knn
-- ==== Proof.Out0.lean ====
/- What the first region's body leaves in its three output blocks, from the blocks it loads: the two cases of its
   first-point reset, read back from the pieces its run stores. -/
module

public import proofs.«01_k».proof.Proof.Gen.KernelIdeal.Frame
public import proofs.«01_k».proof.Proof.Payload0

@[expose] public section

set_option maxRecDepth 16384

noncomputable section

namespace Cert.Knn

open Idealize.ShloMosaic Cert.KernelIdeal Cert.KernelIdeal.Gen

theorem zero2 : (![0, 0] : Fin 2 → Nat) = fun _ => 0 := funext fun a => by fin_cases a <;> rfl
theorem zero3 : (![0, 0, 0] : Fin 3 → Nat) = fun _ => 0 := funext fun a => by fin_cases a <;> rfl

section

variable (c : Dev nD) (i : grid0.Coords)
  (a2 : Memref sig .tc .vmem S1x2048x3 .f32) (h2 : a2.IsWhole) (a3 : Memref sig .tc .vmem S1x2048x3 .f32) (h3 : a3.IsWhole)
  (a4 : Memref sig .tc .vmem S1x2048x64 .f32) (h4 : a4.IsWhole) (a5 : Memref sig .tc .vmem S1x2048x128 .f32) (h5 : a5.IsWhole)
  (a6 : Memref sig .tc .vmem S64x128 .f32) (h6 : a6.IsWhole) (a7 : Memref sig .tc .vmem S128x128 .f32) (h7 : a7.IsWhole)
  (a8 : Memref sig .tc .vmem S1x128 .f32) (h8 : a8.IsWhole) (a9 : Memref sig .tc .vmem S1x2048x128 .f32) (h9 : a9.IsWhole)
  (a10 : Memref sig .tc .vmem S1x128 .f32) (h10 : a10.IsWhole) (a11 : Memref sig .tc .vmem S1x128 .f32) (h11 : a11.IsWhole)
  (x0 x1 : Vec Ideal S1x2048x3 .f32) (x2 : Vec Ideal S1x2048x64 .f32) (x3 : Vec Ideal S1x2048x128 .f32)
  (x4 : Vec Ideal S64x128 .f32) (x5 : Vec Ideal S128x128 .f32) (x6 xo8 xo9 : Vec Ideal S1x128 .f32)

/-- First point: the block of the linear layer. -/
theorem out0_A_7_eq (hc : cond0_0 i) :
    out0_A_7 c i a2 h2 a3 h3 a4 h4 a5 h5 a6 h6 a7 h7 a8 h8 a9 h9 a10 h10 a11 h11 hc x0 x1 x2 x3 x4 x5 x6
      = k0_pay2 (lin0 x0 x1 x3 x2 x4 x5) x6 := by
  unfold out0_A_7
  rw [View.read_writes_eq_canon _ _ _
    (cover0_A_7 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero zero3]
  simp only [View.readAt_eq_ld, h2.read_unread, h3.read_unread, h4.read_unread, h5.read_unread, h6.read_unread,
    h7.read_unread, h8.read_unread, View.ld_unit_zero (S := S1x2048x3) zero3, View.ld_unit_zero (S := S1x2048x64) zero3,
    View.ld_unit_zero (S := S1x2048x128) zero3, View.ld_unit_zero (S := S64x128) zero2,
    View.ld_unit_zero (S := S128x128) zero2, View.ld_unit_zero (S := S1x128) zero2]

/-- First point: the sum, over a zeroed block. -/
theorem out0_A_8_eq (hc : cond0_0 i) :
    out0_A_8 c i a2 h2 a3 h3 a4 h4 a5 h5 a6 h6 a7 h7 a8 h8 a9 h9 a10 h10 a11 h11 hc x0 x1 x2 x3 x4 x5 x6
      = k0_pay5 (lin0 x0 x1 x3 x2 x4 x5) x6 (k0_pay3 (F := Ideal)) := by
  unfold out0_A_8
  rw [View.read_writes_eq_canon _ _ _
    (cover0_A_8 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x128) zero2, View.readCov_unit_zero (S := S1x128) _ zero2]
  simp only [View.readAt_eq_ld, h2.read_unread, h3.read_unread, h4.read_unread, h5.read_unread, h6.read_unread,
    h7.read_unread, h8.read_unread, View.ld_unit_zero (S := S1x2048x3) zero3, View.ld_unit_zero (S := S1x2048x64) zero3,
    View.ld_unit_zero (S := S1x2048x128) zero3, View.ld_unit_zero (S := S64x128) zero2,
    View.ld_unit_zero (S := S128x128) zero2, View.ld_unit_zero (S := S1x128) zero2]

/-- First point: the sum of squares, over a zeroed block. -/
theorem out0_A_9_eq (hc : cond0_0 i) :
    out0_A_9 c i a2 h2 a3 h3 a4 h4 a5 h5 a6 h6 a7 h7 a8 h8 a9 h9 a10 h10 a11 h11 hc x0 x1 x2 x3 x4 x5 x6
      = k0_pay6 (lin0 x0 x1 x3 x2 x4 x5) x6 (k0_pay4 (F := Ideal)) := by
  unfold out0_A_9
  rw [View.read_writes_eq_canon _ _ _
    (cover0_A_9 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x128) zero2, View.readCov_unit_zero (S := S1x128) _ zero2]
  simp only [View.readAt_eq_ld, h2.read_unread, h3.read_unread, h4.read_unread, h5.read_unread, h6.read_unread,
    h7.read_unread, h8.read_unread, View.ld_unit_zero (S := S1x2048x3) zero3, View.ld_unit_zero (S := S1x2048x64) zero3,
    View.ld_unit_zero (S := S1x2048x128) zero3, View.ld_unit_zero (S := S64x128) zero2,
    View.ld_unit_zero (S := S128x128) zero2, View.ld_unit_zero (S := S1x128) zero2]

/-- Later points: the block of the linear layer. -/
theorem out0_B_7_eq (hc : ¬cond0_0 i) :
    out0_B_7 c i a2 h2 a3 h3 a4 h4 a5 h5 a6 h6 a7 h7 a8 h8 a9 h9 a10 h10 a11 h11 hc x0 x1 x2 x3 x4 x5 x6 xo8 xo9
      = k0_pay2 (lin0 x0 x1 x3 x2 x4 x5) x6 := by
  unfold out0_B_7
  rw [View.read_writes_eq_canon _ _ _
    (cover0_B_7 c i a2 h2 a3 h3 a4 h4 a5 h5 a6 h6 a7 h7 a8 h8 a9 h9 a10 h10 a11 h11 hc x0 x1 x2 x3 x4 x5 x6 xo8 xo9)]
  unfold kernelRun0_B
  dsimp only
  sl_unfold_words
  rw [View.canon_unit_zero zero3]
  simp only [View.readAt_eq_ld, h2.read_unread, h3.read_unread, h4.read_unread, h5.read_unread, h6.read_unread,
    h7.read_unread, h8.read_unread, View.ld_unit_zero (S := S1x2048x3) zero3, View.ld_unit_zero (S := S1x2048x64) zero3,
    View.ld_unit_zero (S := S1x2048x128) zero3, View.ld_unit_zero (S := S64x128) zero2,
    View.ld_unit_zero (S := S128x128) zero2, View.ld_unit_zero (S := S1x128) zero2]

/-- Later points: the sum, over what the block holds. -/
theorem out0_B_8_eq (hc : ¬cond0_0 i) :
    out0_B_8 c i a2 h2 a3 h3 a4 h4 a5 h5 a6 h6 a7 h7 a8 h8 a9 h9 a10 h10 a11 h11 hc x0 x1 x2 x3 x4 x5 x6 xo8 xo9
      = k0_pay5 (lin0 x0 x1 x3 x2 x4 x5) x6 xo8 := by
  unfold out0_B_8
  rw [View.read_writes_eq_canon _ _ _
    (cover0_B_8 c i a2 h2 a3 h3 a4 h4 a5 h5 a6 h6 a7 h7 a8 h8 a9 h9 a10 h10 a11 h11 hc x0 x1 x2 x3 x4 x5 x6 xo8 xo9)]
  unfold kernelRun0_B
  dsimp only
  sl_unfold_words
  rw [View.canon_unit_zero zero2]
  simp only [View.readAt_eq_ld, h2.read_unread, h3.read_unread, h4.read_unread, h5.read_unread, h6.read_unread,
    h7.read_unread, h8.read_unread, h10.read_unread, View.ld_unit_zero (S := S1x2048x3) zero3,
    View.ld_unit_zero (S := S1x2048x64) zero3, View.ld_unit_zero (S := S1x2048x128) zero3,
    View.ld_unit_zero (S := S64x128) zero2, View.ld_unit_zero (S := S128x128) zero2, View.ld_unit_zero (S := S1x128) zero2]

/-- Later points: the sum of squares, over what the block holds. -/
theorem out0_B_9_eq (hc : ¬cond0_0 i) :
    out0_B_9 c i a2 h2 a3 h3 a4 h4 a5 h5 a6 h6 a7 h7 a8 h8 a9 h9 a10 h10 a11 h11 hc x0 x1 x2 x3 x4 x5 x6 xo8 xo9
      = k0_pay6 (lin0 x0 x1 x3 x2 x4 x5) x6 xo9 := by
  unfold out0_B_9
  rw [View.read_writes_eq_canon _ _ _
    (cover0_B_9 c i a2 h2 a3 h3 a4 h4 a5 h5 a6 h6 a7 h7 a8 h8 a9 h9 a10 h10 a11 h11 hc x0 x1 x2 x3 x4 x5 x6 xo8 xo9)]
  unfold kernelRun0_B
  dsimp only
  sl_unfold_words
  rw [View.canon_unit_zero zero2]
  simp only [View.readAt_eq_ld, h2.read_unread, h3.read_unread, h4.read_unread, h5.read_unread, h6.read_unread,
    h7.read_unread, h8.read_unread, h11.read_unread, View.ld_unit_zero (S := S1x2048x3) zero3,
    View.ld_unit_zero (S := S1x2048x64) zero3, View.ld_unit_zero (S := S1x2048x128) zero3,
    View.ld_unit_zero (S := S64x128) zero2, View.ld_unit_zero (S := S128x128) zero2, View.ld_unit_zero (S := S1x128) zero2]

end

end Cert.Knn
-- ==== Proof.Region0.lean ====
/- What the first region leaves in its three arrays, from the contents it is entered at: the first linear layer at every
   row, and the column sums of it and of its squares. -/
module

public import proofs.«01_k».proof.Proof.Out0
public import proofs.«01_k».proof.Proof.Rows
public import Idealize.ShloMosaic.Lib.Pipeline.Value

@[expose] public section

set_option maxRecDepth 16384

noncomputable section

namespace Cert.Knn

open Idealize.ShloMosaic Idealize.ShloMosaic.TcCoe Cert.KernelIdeal Cert.KernelIdeal.Gen
open Idealize.ShloMosaic.Pipeline (Dat)

/-- The first linear layer at one row and one output, from whole arrays. -/
def lin (x1 : Vec Ideal S4x8192x3 .f32) (x2 : Vec Ideal S4x2048x3 .f32) (p1 : Vec Ideal S4x8192x64 .f32)
    (p2 : Vec Ideal S4x2048x128 .f32) (wa : Vec Ideal S64x128 .f32) (wb : Vec Ideal S128x128 .f32)
    (b : Vec Ideal S1x128 .f32) (R : Fin 32768) (o : Fin 128) : EReal :=
  layer0 (fun m => sqDist (fun k => x1 (ix3 (bOf R) (nOf R) k)) (fun k => x2 (ix3 (bOf R) m k)))
    (fun k => p1 (ix3 (bOf R) (nOf R) k)) (fun m k => p2 (ix3 (bOf R) m k)) (fun k => wa (ix2 k o)) (fun k => wb (ix2 k o))
    (b (ix2 0 o))

variable (V : (c : Dev nD) → (b : Ref sig .tc) → Buf (Elt Ideal) ((c : Thread nD τ).loc b))

/-- The first linear layer from the contents the region is entered at. -/
abbrev linV (c : Dev nD) : Fin 32768 → Fin 128 → EReal :=
  lin (V c main_arg0) (V c main_arg1) (V c main_arg2) (V c main_arg3) (V c main_v1) (V c main_v3) (V c main_v5)

theorem lt0 (t : Fin cfg0.N) : t.val < 16 := by have h : cfg0.N = 16 := N_0; have := t.isLt; omega

theorem coord0 (t : Fin grid0.N) : (grid0.coords t 0).val = t.val / 4 % 4 := Pipeline.Grid.coords_val t 0 (by decide) rfl
theorem coord1 (t : Fin grid0.N) : (grid0.coords t 1).val = t.val / 1 % 4 := Pipeline.Grid.coords_val t 1 (by decide) rfl

/-- Where the windows' blocks sit, over the whole grid. -/
theorem index0 : ∀ t : Fin grid0.N,
    (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = t.val / 4 ∧ win0_2.index t 1 = t.val % 4 ∧ win0_2.index t 2 = 0)
    ∧ (win0_3.index t 0 = t.val / 4 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0)
    ∧ (win0_7.index t 0 = t.val / 4 ∧ win0_7.index t 1 = t.val % 4 ∧ win0_7.index t 2 = 0)
    ∧ (win0_8.index t 0 = 0 ∧ win0_8.index t 1 = 0) ∧ (win0_9.index t 0 = 0 ∧ win0_9.index t 1 = 0) := by
  decide +kernel

theorem iblk0_0 (c : Dev nD) (t : Fin cfg0.N) (r : Fin 2048) (k : Fin 3) :
    (iblk0 V c 0 t : Vec Ideal S1x2048x3 .f32) (ix3 0 r k)
      = (V c main_arg0 : Vec Ideal S4x8192x3 .f32) (ix3 (bOf (rowIn t.val (lt0 t) r)) (nOf (rowIn t.val (lt0 t) r)) k) := by
  have hi := (index0 t).1
  have := lt0 t
  unfold iblk0
  rw [View.read_apply]
  show V c main_arg0 _ = V c main_arg0 _
  congr 1
  funext a
  apply Fin.ext
  match a with
  | ⟨0, _⟩ => show win0_0.index t 0 * 1 + 1 * 0 = (2048 * t.val + r.val) / 8192; rw [hi.1]; omega
  | ⟨1, _⟩ => show win0_0.index t 1 * 2048 + 1 * r.val = (2048 * t.val + r.val) % 8192; rw [hi.2.1]; omega
  | ⟨2, _⟩ => show win0_0.index t 2 * 3 + 1 * k.val = k.val; rw [hi.2.2]; omega

theorem iblk0_1 (c : Dev nD) (t : Fin cfg0.N) (r m : Fin 2048) (k : Fin 3) :
    (iblk0 V c 1 t : Vec Ideal S1x2048x3 .f32) (ix3 0 m k)
      = (V c main_arg1 : Vec Ideal S4x2048x3 .f32) (ix3 (bOf (rowIn t.val (lt0 t) r)) m k) := by
  have hi := (index0 t).2.1
  have := lt0 t
  unfold iblk0
  rw [View.read_apply]
  show V c main_arg1 _ = V c main_arg1 _
  congr 1
  funext a
  apply Fin.ext
  match a with
  | ⟨0, _⟩ => show win0_1.index t 0 * 1 + 1 * 0 = (2048 * t.val + r.val) / 8192; rw [hi.1]; omega
  | ⟨1, _⟩ => show win0_1.index t 1 * 2048 + 1 * m.val = m.val; rw [hi.2.1]; omega
  | ⟨2, _⟩ => show win0_1.index t 2 * 3 + 1 * k.val = k.val; rw [hi.2.2]; omega

theorem iblk0_2 (c : Dev nD) (t : Fin cfg0.N) (r : Fin 2048) (k : Fin 64) :
    (iblk0 V c 2 t : Vec Ideal S1x2048x64 .f32) (ix3 0 r k)
      = (V c main_arg2 : Vec Ideal S4x8192x64 .f32) (ix3 (bOf (rowIn t.val (lt0 t) r)) (nOf (rowIn t.val (lt0 t) r)) k) := by
  have hi := (index0 t).2.2.1
  have := lt0 t
  unfold iblk0
  rw [View.read_apply]
  show V c main_arg2 _ = V c main_arg2 _
  congr 1
  funext a
  apply Fin.ext
  match a with
  | ⟨0, _⟩ => show win0_2.index t 0 * 1 + 1 * 0 = (2048 * t.val + r.val) / 8192; rw [hi.1]; omega
  | ⟨1, _⟩ => show win0_2.index t 1 * 2048 + 1 * r.val = (2048 * t.val + r.val) % 8192; rw [hi.2.1]; omega
  | ⟨2, _⟩ => show win0_2.index t 2 * 64 + 1 * k.val = k.val; rw [hi.2.2]; omega

theorem iblk0_3 (c : Dev nD) (t : Fin cfg0.N) (r m : Fin 2048) (k : Fin 128) :
    (iblk0 V c 3 t : Vec Ideal S1x2048x128 .f32) (ix3 0 m k)
      = (V c main_arg3 : Vec Ideal S4x2048x128 .f32) (ix3 (bOf (rowIn t.val (lt0 t) r)) m k) := by
  have hi := (index0 t).2.2.2.1
  have := lt0 t
  unfold iblk0
  rw [View.read_apply]
  show V c main_arg3 _ = V c main_arg3 _
  congr 1
  funext a
  apply Fin.ext
  match a with
  | ⟨0, _⟩ => show win0_3.index t 0 * 1 + 1 * 0 = (2048 * t.val + r.val) / 8192; rw [hi.1]; omega
  | ⟨1, _⟩ => show win0_3.index t 1 * 2048 + 1 * m.val = m.val; rw [hi.2.1]; omega
  | ⟨2, _⟩ => show win0_3.index t 2 * 128 + 1 * k.val = k.val; rw [hi.2.2]; omega

theorem iblk0_4 (c : Dev nD) (t : Fin cfg0.N) (k : Fin 64) (o : Fin 128) :
    (iblk0 V c 4 t : Vec Ideal S64x128 .f32) (ix2 k o) = (V c main_v1 : Vec Ideal S64x128 .f32) (ix2 k o) := by
  have hi := (index0 t).2.2.2.2.1
  unfold iblk0
  rw [View.read_apply]
  show V c main_v1 _ = V c main_v1 _
  congr 1
  funext a
  apply Fin.ext
  match a with
  | ⟨0, _⟩ => show win0_4.index t 0 * 64 + 1 * k.val = k.val; rw [hi.1]; omega
  | ⟨1, _⟩ => show win0_4.index t 1 * 128 + 1 * o.val = o.val; rw [hi.2]; omega

theorem iblk0_5 (c : Dev nD) (t : Fin cfg0.N) (k o : Fin 128) :
    (iblk0 V c 5 t : Vec Ideal S128x128 .f32) (ix2 k o) = (V c main_v3 : Vec Ideal S128x128 .f32) (ix2 k o) := by
  have hi := (index0 t).2.2.2.2.2.1
  unfold iblk0
  rw [View.read_apply]
  show V c main_v3 _ = V c main_v3 _
  congr 1
  funext a
  apply Fin.ext
  match a with
  | ⟨0, _⟩ => show win0_5.index t 0 * 128 + 1 * k.val = k.val; rw [hi.1]; omega
  | ⟨1, _⟩ => show win0_5.index t 1 * 128 + 1 * o.val = o.val; rw [hi.2]; omega

theorem iblk0_6 (c : Dev nD) (t : Fin cfg0.N) (o : Fin 128) :
    (iblk0 V c 6 t : Vec Ideal S1x128 .f32) (ix2 0 o) = (V c main_v5 : Vec Ideal S1x128 .f32) (ix2 0 o) := by
  have hi := (index0 t).2.2.2.2.2.2.1
  unfold iblk0
  rw [View.read_apply]
  show V c main_v5 _ = V c main_v5 _
  congr 1
  funext a
  apply Fin.ext
  match a with
  | ⟨0, _⟩ => show win0_6.index t 0 * 1 + 1 * 0 = 0; rw [hi.1]
  | ⟨1, _⟩ => show win0_6.index t 1 * 128 + 1 * o.val = o.val; rw [hi.2]; omega

/-- Entry `(r, o)` of the block computed at point `t`. -/
theorem block0 (c : Dev nD) (t : Fin cfg0.N) (r : Fin 2048) (o : Fin 128) :
    k0_pay1 (lin0 (iblk0 V c 0 t) (iblk0 V c 1 t) (iblk0 V c 3 t) (iblk0 V c 2 t) (iblk0 V c 4 t) (iblk0 V c 5 t))
        (iblk0 V c 6 t) (ix2 r o) = linV V c (rowIn t.val (lt0 t) r) o := by
  rw [pay1_apply]
  unfold linV lin row
  congr 1
  · funext m
    rw [pay7_apply]
    congr 1
    · funext k; exact iblk0_0 V c t r k
    · funext k; exact iblk0_1 V c t r m k
  · funext k; exact iblk0_2 V c t r k
  · funext m k; exact iblk0_3 V c t r m k
  · funext k; exact iblk0_4 V c t k o
  · funext k; exact iblk0_5 V c t k o
  · exact iblk0_6 V c t o

/-- What the first output's block holds after point `t`. -/
theorem after_lin (c : Dev nD) (t : Fin cfg0.N) (r : Fin 2048) (o : Fin 128) :
    (outsAt0 V c t.val t.isLt).1 (ix3 0 r o) = linV V c (rowIn t.val (lt0 t) r) o := by
  by_cases h0 : t.val % 16 = 0
  · rw [outsAt0_A V c t h0]
    dsimp only
    rw [out0_A_7_eq, pay2_apply, block0]
  · rw [outsAt0_B V c t h0]
    dsimp only
    rw [out0_B_7_eq, pay2_apply, block0]

/-- What the two sums' blocks hold after point `n`: the sums over the rows so far. -/
theorem after_sums (c : Dev nD) (o : Fin 128) : ∀ (n : ℕ) (h : n < cfg0.N),
    (outsAt0 V c n h).2.1 (ix2 0 o) = upto (fun R => linV V c R o) (2048 * (n + 1))
    ∧ (outsAt0 V c n h).2.2 (ix2 0 o) = upto (fun R => linV V c R o * linV V c R o) (2048 * (n + 1))
  | 0, h => by
    rw [outsAt0_A V c ⟨0, h⟩ rfl]
    dsimp only
    rw [out0_A_8_eq, out0_A_9_eq, pay5_apply, pay6_apply, pay3_apply, pay4_apply, upto_block _ 0 (by omega),
      upto_block _ 0 (by omega), Nat.mul_zero, upto_zero, upto_zero]
    exact ⟨by simp only [block0], by simp only [block0]⟩
  | n + 1, h => by
    have hN : cfg0.N = 16 := N_0
    have hB : ¬(⟨n + 1, h⟩ : Fin cfg0.N).val % 16 = 0 := by dsimp only; omega
    have ih := after_sums c o n (by omega)
    rw [outsAt0_B V c ⟨n + 1, h⟩ hB]
    dsimp only
    rw [out0_B_8_eq, out0_B_9_eq, pay5_apply, pay6_apply, upto_block _ (n + 1) (by omega), upto_block _ (n + 1) (by omega)]
    simp only [block0]
    exact ⟨congrArg (· + _) ih.1, congrArg (· + _) ih.2⟩

end Cert.Knn
-- ==== Proof.Region0Arrays.lean ====
/- The three arrays of the first region when it ends. -/
module

public import proofs.«01_k».proof.Proof.Region0
public import Idealize.ShloMosaic.Lib.Pipeline.ValueKit

@[expose] public section

set_option maxRecDepth 16384

noncomputable section

namespace Cert.Knn

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- The first array: the first linear layer at every row. -/
theorem lin_array (c : Dev nD) : (dat0 V c).arrAt 7 cfg0.N
    = (fun j => linV V c (rowAt (j 0) (j 1)) (j 2) : Vec Ideal S4x8192x128 .f32) := by
  have key : ∀ (t : Fin cfg0.N) (y : S1x2048x128.Idx), (outsAt0 V c t.val t.isLt).1 y
      = linV V c (rowAt ((win0_7.blk t).view.emb y 0) ((win0_7.blk t).view.emb y 1)) ((win0_7.blk t).view.emb y 2) := by
    intro t y
    obtain ⟨z, r, o, rfl⟩ : ∃ z r o, y = ix3 z r o := ⟨y 0, y 1, y 2, eq_ix3 y⟩
    obtain rfl : z = 0 := Subsingleton.elim _ _
    rw [after_lin]
    have hi := (index0 t).2.2.2.2.2.2.2.1
    have := lt0 t
    congr 1
    · apply Fin.ext
      show 2048 * t.val + r.val = (win0_7.index t 0 * 1 + 1 * 0) * 8192 + (win0_7.index t 1 * 2048 + 1 * r.val)
      rw [hi.1, hi.2.1]; omega
    · apply Fin.ext
      show o.val = win0_7.index t 2 * 128 + 1 * o.val
      rw [hi.2.2]; omega
  refine (dat0 V c).arrAt_eq_of_covers 7 _ (by decide +kernel) fun t hf y => ?_
  blk_simp
  rw [after0_7]
  exact key t y

/-- The sums' blocks after the last point: the sums over all rows. -/
theorem last_sums (c : Dev nD) (o : Fin 128) :
    (outsAt0 V c t0_15.val t0_15.isLt).2.1 (ix2 0 o) = ∑ R, linV V c R o
    ∧ (outsAt0 V c t0_15.val t0_15.isLt).2.2 (ix2 0 o) = ∑ R, linV V c R o * linV V c R o := by
  have h := after_sums V c o 15 t0_15.isLt
  rw [upto_all, upto_all] at h
  exact h

/-- The second array: the layer's column sums. -/
theorem sum_array (c : Dev nD) : (dat0 V c).arrAt 8 cfg0.N = (fun j => ∑ R, linV V c R (j 1) : Vec Ideal S1x128 .f32) := by
  have key : ∀ j : S1x128.Idx, (outsAt0 V c t0_15.val t0_15.isLt).2.1 j = ∑ R, linV V c R (j 1) := by
    intro j
    obtain ⟨z, o, rfl⟩ : ∃ z o, j = ix2 z o := ⟨j 0, j 1, eq_ix2 j⟩
    obtain rfl : z = 0 := Subsingleton.elim _ _
    exact (last_sums V c o).1
  refine (dat0 V c).arrAt_eq_of_after_last 8 t0_15 (by decide +kernel) _ fun j => ?_
  blk_simp
  rw [after0_8]
  exact key j

/-- The third array: the column sums of its squares. -/
theorem squares_array (c : Dev nD) : (dat0 V c).arrAt 9 cfg0.N
    = (fun j => ∑ R, linV V c R (j 1) * linV V c R (j 1) : Vec Ideal S1x128 .f32) := by
  have key : ∀ j : S1x128.Idx, (outsAt0 V c t0_15.val t0_15.isLt).2.2 j = ∑ R, linV V c R (j 1) * linV V c R (j 1) := by
    intro j
    obtain ⟨z, o, rfl⟩ : ∃ z o, j = ix2 z o := ⟨j 0, j 1, eq_ix2 j⟩
    obtain rfl : z = 0 := Subsingleton.elim _ _
    exact (last_sums V c o).2
  refine (dat0 V c).arrAt_eq_of_after_last 9 t0_15 (by decide +kernel) _ fun j => ?_
  blk_simp
  rw [after0_9]
  exact key j

end Cert.Knn
-- ==== Proof.Payload12.lean ====
/- What the second and third regions' bodies compute from their blocks, entry by entry: the batch norm of the incoming
   block from the column sums, and the second linear layer. -/
module

public import proofs.«01_k».proof.Proof.Gen.KernelIdeal.Skeleton
public import proofs.«01_k».proof.Proof.Norm
public import Idealize.ShloMosaic.Lib.Pointwise

@[expose] public section

set_option maxRecDepth 16384

noncomputable section

namespace Cert.Knn

open Idealize.ShloMosaic Cert.KernelIdeal Cert.KernelIdeal.Gen

/-- Entry `(r, o)` of the second region's block: the normalised row `r` against the weights of output `o`, and the bias. -/
theorem k1_pay5_apply (s ss g β : Vec Ideal S1x128 .f32) (y : Vec Ideal S2048x128 .f32) (w : Vec Ideal S128x64 .f32)
    (b : Vec Ideal S1x64 .f32) (r : Fin 2048) (o : Fin 64) :
    k1_pay5 s ss g β y w b (ix2 r o)
      = ∑ k : Fin 128, onePass (s (ix2 0 k)) (ss (ix2 0 k)) (g (ix2 0 k)) (β (ix2 0 k)) (y (ix2 r k)) * w (ix2 k o)
        + b (ix2 0 o) := by
  pointwise [k1_pay5]
  rfl

theorem k1_pay1_apply (o : Fin 64) : k1_pay1 (F := Ideal) (ix2 0 o) = 0 := by
  pointwise [k1_pay1]

theorem k1_pay2_apply (o : Fin 64) : k1_pay2 (F := Ideal) (ix2 0 o) = 0 := by
  pointwise [k1_pay2]

/-- The sum carried over the points gains the block's column sums. -/
theorem k1_pay3_apply (y : FVec Ideal S2048x64 .f32) (a : Vec Ideal S1x64 .f32) (o : Fin 64) :
    k1_pay3 y a (ix2 0 o) = a (ix2 0 o) + ∑ r : Fin 2048, y (ix2 r o) := by
  pointwise [k1_pay3]

/-- The sum of squares carried over the points gains the block's column sums of squares. -/
theorem k1_pay4_apply (y : FVec Ideal S2048x64 .f32) (a : Vec Ideal S1x64 .f32) (o : Fin 64) :
    k1_pay4 y a (ix2 0 o) = a (ix2 0 o) + ∑ r : Fin 2048, y (ix2 r o) * y (ix2 r o) := by
  pointwise [k1_pay4]

/-- Entry `(r, o)` of the third region's block: the incoming entry normalised. -/
theorem k2_pay1_apply (s ss g β : Vec Ideal S1x64 .f32) (y : Vec Ideal S4096x64 .f32) (r : Fin 4096) (o : Fin 64) :
    k2_pay1 s ss g β y (ix2 r o) = onePass (s (ix2 0 o)) (ss (ix2 0 o)) (g (ix2 0 o)) (β (ix2 0 o)) (y (ix2 r o)) := by
  pointwise [k2_pay1]
  rfl

end Cert.Knn
-- ==== Proof.Out1.lean ====
/- What the second region's body leaves in its three output blocks and the third region's in its one, from the blocks
   they load. -/
module

public import proofs.«01_k».proof.Proof.Gen.KernelIdeal.Frame
public import proofs.«01_k».proof.Proof.Payload12

@[expose] public section

set_option maxRecDepth 16384

noncomputable section

namespace Cert.Knn

open Idealize.ShloMosaic Cert.KernelIdeal Cert.KernelIdeal.Gen

theorem origin2 : (![0, 0] : Fin 2 → Nat) = fun _ => 0 := funext fun a => by fin_cases a <;> rfl

section

variable (c : Dev nD) (i : grid1.Coords)
  (a1 : Memref sig .tc .vmem S2048x128 .f32) (h1 : a1.IsWhole) (a2 : Memref sig .tc .vmem S1x128 .f32) (h2 : a2.IsWhole)
  (a3 : Memref sig .tc .vmem S1x128 .f32) (h3 : a3.IsWhole) (a4 : Memref sig .tc .vmem S1x128 .f32) (h4 : a4.IsWhole)
  (a5 : Memref sig .tc .vmem S1x128 .f32) (h5 : a5.IsWhole) (a6 : Memref sig .tc .vmem S128x64 .f32) (h6 : a6.IsWhole)
  (a7 : Memref sig .tc .vmem S1x64 .f32) (h7 : a7.IsWhole) (a8 : Memref sig .tc .vmem S2048x64 .f32) (h8 : a8.IsWhole)
  (a9 : Memref sig .tc .vmem S1x64 .f32) (h9 : a9.IsWhole) (a10 : Memref sig .tc .vmem S1x64 .f32) (h10 : a10.IsWhole)
  (x0 : Vec Ideal S2048x128 .f32) (x1 x2 x3 x4 : Vec Ideal S1x128 .f32) (x5 : Vec Ideal S128x64 .f32)
  (x6 xo8 xo9 : Vec Ideal S1x64 .f32)

/-- First point: the block of the second linear layer. -/
theorem out1_A_7_eq (hc : cond1_0 i) :
    out1_A_7 c i a1 h1 a2 h2 a3 h3 a4 h4 a5 h5 a6 h6 a7 h7 a8 h8 a9 h9 a10 h10 hc x0 x1 x2 x3 x4 x5 x6
      = k1_pay5 x1 x2 x3 x4 x0 x5 x6 := by
  unfold out1_A_7
  rw [View.read_writes_eq_canon _ _ _
    (cover1_A_7 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_unit_zero origin2]
  simp only [View.readAt_eq_ld, h1.read_unread, h2.read_unread, h3.read_unread, h4.read_unread, h5.read_unread,
    h6.read_unread, h7.read_unread, View.ld_unit_zero (S := S2048x128) origin2, View.ld_unit_zero (S := S1x128) origin2,
    View.ld_unit_zero (S := S128x64) origin2, View.ld_unit_zero (S := S1x64) origin2]

/-- First point: the sum, over a zeroed block. -/
theorem out1_A_8_eq (hc : cond1_0 i) :
    out1_A_8 c i a1 h1 a2 h2 a3 h3 a4 h4 a5 h5 a6 h6 a7 h7 a8 h8 a9 h9 a10 h10 hc x0 x1 x2 x3 x4 x5 x6
      = k1_pay3 (k1_pay5 x1 x2 x3 x4 x0 x5 x6) (k1_pay1 (F := Ideal)) := by
  unfold out1_A_8
  rw [View.read_writes_eq_canon _ _ _
    (cover1_A_8 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x64) origin2, View.readCov_unit_zero (S := S1x64) _ origin2]
  simp only [View.readAt_eq_ld, h1.read_unread, h2.read_unread, h3.read_unread, h4.read_unread, h5.read_unread,
    h6.read_unread, h7.read_unread, View.ld_unit_zero (S := S2048x128) origin2, View.ld_unit_zero (S := S1x128) origin2,
    View.ld_unit_zero (S := S128x64) origin2, View.ld_unit_zero (S := S1x64) origin2]

/-- First point: the sum of squares, over a zeroed block. -/
theorem out1_A_9_eq (hc : cond1_0 i) :
    out1_A_9 c i a1 h1 a2 h2 a3 h3 a4 h4 a5 h5 a6 h6 a7 h7 a8 h8 a9 h9 a10 h10 hc x0 x1 x2 x3 x4 x5 x6
      = k1_pay4 (k1_pay5 x1 x2 x3 x4 x0 x5 x6) (k1_pay2 (F := Ideal)) := by
  unfold out1_A_9
  rw [View.read_writes_eq_canon _ _ _
    (cover1_A_9 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x64) origin2, View.readCov_unit_zero (S := S1x64) _ origin2]
  simp only [View.readAt_eq_ld, h1.read_unread, h2.read_unread, h3.read_unread, h4.read_unread, h5.read_unread,
    h6.read_unread, h7.read_unread, View.ld_unit_zero (S := S2048x128) origin2, View.ld_unit_zero (S := S1x128) origin2,
    View.ld_unit_zero (S := S128x64) origin2, View.ld_unit_zero (S := S1x64) origin2]

/-- Later points: the block of the second linear layer. -/
theorem out1_B_7_eq (hc : ¬cond1_0 i) :
    out1_B_7 c i a1 h1 a2 h2 a3 h3 a4 h4 a5 h5 a6 h6 a7 h7 a8 h8 a9 h9 a10 h10 hc x0 x1 x2 x3 x4 x5 x6 xo8 xo9
      = k1_pay5 x1 x2 x3 x4 x0 x5 x6 := by
  unfold out1_B_7
  rw [View.read_writes_eq_canon _ _ _
    (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero origin2]
  simp only [View.readAt_eq_ld, h1.read_unread, h2.read_unread, h3.read_unread, h4.read_unread, h5.read_unread,
    h6.read_unread, h7.read_unread, View.ld_unit_zero (S := S2048x128) origin2, View.ld_unit_zero (S := S1x128) origin2,
    View.ld_unit_zero (S := S128x64) origin2, View.ld_unit_zero (S := S1x64) origin2]

/-- Later points: the sum, over what the block holds. -/
theorem out1_B_8_eq (hc : ¬cond1_0 i) :
    out1_B_8 c i a1 h1 a2 h2 a3 h3 a4 h4 a5 h5 a6 h6 a7 h7 a8 h8 a9 h9 a10 h10 hc x0 x1 x2 x3 x4 x5 x6 xo8 xo9
      = k1_pay3 (k1_pay5 x1 x2 x3 x4 x0 x5 x6) xo8 := by
  unfold out1_B_8
  rw [View.read_writes_eq_canon _ _ _
    (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero origin2]
  simp only [View.readAt_eq_ld, h1.read_unread, h2.read_unread, h3.read_unread, h4.read_unread, h5.read_unread,
    h6.read_unread, h7.read_unread, h9.read_unread, View.ld_unit_zero (S := S2048x128) origin2,
    View.ld_unit_zero (S := S1x128) origin2, View.ld_unit_zero (S := S128x64) origin2, View.ld_unit_zero (S := S1x64) origin2]

/-- Later points: the sum of squares, over what the block holds. -/
theorem out1_B_9_eq (hc : ¬cond1_0 i) :
    out1_B_9 c i a1 h1 a2 h2 a3 h3 a4 h4 a5 h5 a6 h6 a7 h7 a8 h8 a9 h9 a10 h10 hc x0 x1 x2 x3 x4 x5 x6 xo8 xo9
      = k1_pay4 (k1_pay5 x1 x2 x3 x4 x0 x5 x6) xo9 := by
  unfold out1_B_9
  rw [View.read_writes_eq_canon _ _ _
    (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero origin2]
  simp only [View.readAt_eq_ld, h1.read_unread, h2.read_unread, h3.read_unread, h4.read_unread, h5.read_unread,
    h6.read_unread, h7.read_unread, h10.read_unread, View.ld_unit_zero (S := S2048x128) origin2,
    View.ld_unit_zero (S := S1x128) origin2, View.ld_unit_zero (S := S128x64) origin2, View.ld_unit_zero (S := S1x64) origin2]

end

/-- The third region's block. -/
theorem out2_5_eq (x0 : Vec Ideal S4096x64 .f32) (x1 x2 x3 x4 : Vec Ideal S1x64 .f32) :
    out2_5 x0 x1 x2 x3 x4 = k2_pay1 x1 x2 x3 x4 x0 := by
  unfold out2_5
  rw [View.canon_unit_zero origin2]
  simp only [View.ld_unit_zero (S := S4096x64) origin2, View.ld_unit_zero (S := S1x64) origin2]

end Cert.Knn
-- ==== Proof.Region1.lean ====
/- What the second region leaves in its three arrays, from the contents it is entered at: the second linear layer over the
   normalised first at every row, and the column sums of it and of its squares. -/
module

public import proofs.«01_k».proof.Proof.Out1
public import proofs.«01_k».proof.Proof.Rows
public import Idealize.ShloMosaic.Lib.Pipeline.ValueKit

@[expose] public section

set_option maxRecDepth 16384

noncomputable section

namespace Cert.Knn

open Idealize.ShloMosaic Idealize.ShloMosaic.TcCoe Cert.KernelIdeal Cert.KernelIdeal.Gen
open Idealize.ShloMosaic.Pipeline (Dat)

/-- The second linear layer at one row and one output, from the first layer's rows, their column sums, scale, shift and
    weights. -/
def mid (y : Vec Ideal S32768x128 .f32) (s ss g β : Vec Ideal S1x128 .f32) (w : Vec Ideal S128x64 .f32)
    (b : Vec Ideal S1x64 .f32) (R : Fin 32768) (o : Fin 64) : EReal :=
  ∑ k : Fin 128, onePass (s (ix2 0 k)) (ss (ix2 0 k)) (g (ix2 0 k)) (β (ix2 0 k)) (y (ix2 R k)) * w (ix2 k o) + b (ix2 0 o)

variable (V : (c : Dev nD) → (b : Ref sig .tc) → Buf (Elt Ideal) ((c : Thread nD τ).loc b))

/-- The second linear layer from the contents the region is entered at. -/
abbrev midV (c : Dev nD) : Fin 32768 → Fin 64 → EReal :=
  mid (V c main_v7) (V c main_v6_1) (V c main_v6_2) (V c main_v8) (V c main_v9) (V c main_v4) (V c main_v10)

theorem lt1 (t : Fin cfg1.N) : t.val < 16 := by have h : cfg1.N = 16 := N_1; have := t.isLt; omega

/-- Where the windows' blocks sit, over the whole grid. -/
theorem index1 : ∀ t : Fin grid1.N,
    (win1_0.index t 0 = t.val ∧ win1_0.index t 1 = 0)
    ∧ (win1_1.index t 0 = 0 ∧ win1_1.index t 1 = 0) ∧ (win1_2.index t 0 = 0 ∧ win1_2.index t 1 = 0)
    ∧ (win1_3.index t 0 = 0 ∧ win1_3.index t 1 = 0) ∧ (win1_4.index t 0 = 0 ∧ win1_4.index t 1 = 0)
    ∧ (win1_5.index t 0 = 0 ∧ win1_5.index t 1 = 0) ∧ (win1_6.index t 0 = 0 ∧ win1_6.index t 1 = 0)
    ∧ (win1_7.index t 0 = t.val ∧ win1_7.index t 1 = 0) := by
  decide +kernel

theorem iblk1_0 (c : Dev nD) (t : Fin cfg1.N) (r : Fin 2048) (k : Fin 128) :
    (iblk1 V c 0 t : Vec Ideal S2048x128 .f32) (ix2 r k)
      = (V c main_v7 : Vec Ideal S32768x128 .f32) (ix2 (rowIn t.val (lt1 t) r) k) := by
  have hi := (index1 t).1
  unfold iblk1
  rw [View.read_apply]
  show V c main_v7 _ = V c main_v7 _
  congr 1
  funext a
  apply Fin.ext
  match a with
  | ⟨0, _⟩ => show win1_0.index t 0 * 2048 + 1 * r.val = 2048 * t.val + r.val; rw [hi.1]; omega
  | ⟨1, _⟩ => show win1_0.index t 1 * 128 + 1 * k.val = k.val; rw [hi.2]; omega

theorem iblk1_1 (c : Dev nD) (t : Fin cfg1.N) (k : Fin 128) :
    (iblk1 V c 1 t : Vec Ideal S1x128 .f32) (ix2 0 k) = (V c main_v6_1 : Vec Ideal S1x128 .f32) (ix2 0 k) := by
  have hi := (index1 t).2.1
  unfold iblk1
  rw [View.read_apply]
  show V c main_v6_1 _ = V c main_v6_1 _
  congr 1
  funext a
  apply Fin.ext
  match a with
  | ⟨0, _⟩ => show win1_1.index t 0 * 1 + 1 * 0 = 0; rw [hi.1]
  | ⟨1, _⟩ => show win1_1.index t 1 * 128 + 1 * k.val = k.val; rw [hi.2]; omega

theorem iblk1_2 (c : Dev nD) (t : Fin cfg1.N) (k : Fin 128) :
    (iblk1 V c 2 t : Vec Ideal S1x128 .f32) (ix2 0 k) = (V c main_v6_2 : Vec Ideal S1x128 .f32) (ix2 0 k) := by
  have hi := (index1 t).2.2.1
  unfold iblk1
  rw [View.read_apply]
  show V c main_v6_2 _ = V c main_v6_2 _
  congr 1
  funext a
  apply Fin.ext
  match a with
  | ⟨0, _⟩ => show win1_2.index t 0 * 1 + 1 * 0 = 0; rw [hi.1]
  | ⟨1, _⟩ => show win1_2.index t 1 * 128 + 1 * k.val = k.val; rw [hi.2]; omega

theorem iblk1_3 (c : Dev nD) (t : Fin cfg1.N) (k : Fin 128) :
    (iblk1 V c 3 t : Vec Ideal S1x128 .f32) (ix2 0 k) = (V c main_v8 : Vec Ideal S1x128 .f32) (ix2 0 k) := by
  have hi := (index1 t).2.2.2.1
  unfold iblk1
  rw [View.read_apply]
  show V c main_v8 _ = V c main_v8 _
  congr 1
  funext a
  apply Fin.ext
  match a with
  | ⟨0, _⟩ => show win1_3.index t 0 * 1 + 1 * 0 = 0; rw [hi.1]
  | ⟨1, _⟩ => show win1_3.index t 1 * 128 + 1 * k.val = k.val; rw [hi.2]; omega

theorem iblk1_4 (c : Dev nD) (t : Fin cfg1.N) (k : Fin 128) :
    (iblk1 V c 4 t : Vec Ideal S1x128 .f32) (ix2 0 k) = (V c main_v9 : Vec Ideal S1x128 .f32) (ix2 0 k) := by
  have hi := (index1 t).2.2.2.2.1
  unfold iblk1
  rw [View.read_apply]
  show V c main_v9 _ = V c main_v9 _
  congr 1
  funext a
  apply Fin.ext
  match a with
  | ⟨0, _⟩ => show win1_4.index t 0 * 1 + 1 * 0 = 0; rw [hi.1]
  | ⟨1, _⟩ => show win1_4.index t 1 * 128 + 1 * k.val = k.val; rw [hi.2]; omega

theorem iblk1_5 (c : Dev nD) (t : Fin cfg1.N) (k : Fin 128) (o : Fin 64) :
    (iblk1 V c 5 t : Vec Ideal S128x64 .f32) (ix2 k o) = (V c main_v4 : Vec Ideal S128x64 .f32) (ix2 k o) := by
  have hi := (index1 t).2.2.2.2.2.1
  unfold iblk1
  rw [View.read_apply]
  show V c main_v4 _ = V c main_v4 _
  congr 1
  funext a
  apply Fin.ext
  match a with
  | ⟨0, _⟩ => show win1_5.index t 0 * 128 + 1 * k.val = k.val; rw [hi.1]; omega
  | ⟨1, _⟩ => show win1_5.index t 1 * 64 + 1 * o.val = o.val; rw [hi.2]; omega

theorem iblk1_6 (c : Dev nD) (t : Fin cfg1.N) (o : Fin 64) :
    (iblk1 V c 6 t : Vec Ideal S1x64 .f32) (ix2 0 o) = (V c main_v10 : Vec Ideal S1x64 .f32) (ix2 0 o) := by
  have hi := (index1 t).2.2.2.2.2.2.1
  unfold iblk1
  rw [View.read_apply]
  show V c main_v10 _ = V c main_v10 _
  congr 1
  funext a
  apply Fin.ext
  match a with
  | ⟨0, _⟩ => show win1_6.index t 0 * 1 + 1 * 0 = 0; rw [hi.1]
  | ⟨1, _⟩ => show win1_6.index t 1 * 64 + 1 * o.val = o.val; rw [hi.2]; omega

/-- Entry `(r, o)` of the block computed at point `t`. -/
theorem block1 (c : Dev nD) (t : Fin cfg1.N) (r : Fin 2048) (o : Fin 64) :
    k1_pay5 (iblk1 V c 1 t) (iblk1 V c 2 t) (iblk1 V c 3 t) (iblk1 V c 4 t) (iblk1 V c 0 t) (iblk1 V c 5 t)
        (iblk1 V c 6 t) (ix2 r o) = midV V c (rowIn t.val (lt1 t) r) o := by
  rw [k1_pay5_apply]
  simp only [iblk1_0, iblk1_1, iblk1_2, iblk1_3, iblk1_4, iblk1_5, iblk1_6]
  rfl

/-- What the first output's block holds after point `t`. -/
theorem after_mid (c : Dev nD) (t : Fin cfg1.N) (r : Fin 2048) (o : Fin 64) :
    (outsAt1 V c t.val t.isLt).1 (ix2 r o) = midV V c (rowIn t.val (lt1 t) r) o := by
  by_cases h0 : t.val % 16 = 0
  · rw [outsAt1_A V c t h0]
    dsimp only
    rw [out1_A_7_eq, block1]
  · rw [outsAt1_B V c t h0]
    dsimp only
    rw [out1_B_7_eq, block1]

/-- What the two sums' blocks hold after point `n`: the sums over the rows so far. -/
theorem after_sums1 (c : Dev nD) (o : Fin 64) : ∀ (n : ℕ) (h : n < cfg1.N),
    (outsAt1 V c n h).2.1 (ix2 0 o) = upto (fun R => midV V c R o) (2048 * (n + 1))
    ∧ (outsAt1 V c n h).2.2 (ix2 0 o) = upto (fun R => midV V c R o * midV V c R o) (2048 * (n + 1))
  | 0, h => by
    rw [outsAt1_A V c ⟨0, h⟩ rfl]
    dsimp only
    rw [out1_A_8_eq, out1_A_9_eq, k1_pay3_apply, k1_pay4_apply, k1_pay1_apply, k1_pay2_apply, upto_block _ 0 (by omega),
      upto_block _ 0 (by omega), Nat.mul_zero, upto_zero, upto_zero]
    exact ⟨by simp only [block1], by simp only [block1]⟩
  | n + 1, h => by
    have hN : cfg1.N = 16 := N_1
    have hB : ¬(⟨n + 1, h⟩ : Fin cfg1.N).val % 16 = 0 := by dsimp only; omega
    have ih := after_sums1 c o n (by omega)
    rw [outsAt1_B V c ⟨n + 1, h⟩ hB]
    dsimp only
    rw [out1_B_8_eq, out1_B_9_eq, k1_pay3_apply, k1_pay4_apply, upto_block _ (n + 1) (by omega),
      upto_block _ (n + 1) (by omega)]
    simp only [block1]
    exact ⟨congrArg (· + _) ih.1, congrArg (· + _) ih.2⟩

/-- The first array: the second linear layer at every row. -/
theorem mid_array (c : Dev nD) : (dat1 V c).arrAt 7 cfg1.N = (fun j => midV V c (j 0) (j 1) : Vec Ideal S32768x64 .f32) := by
  have key : ∀ (t : Fin cfg1.N) (y : S2048x64.Idx), (outsAt1 V c t.val t.isLt).1 y
      = midV V c ((win1_7.blk t).view.emb y 0) ((win1_7.blk t).view.emb y 1) := by
    intro t y
    obtain ⟨r, o, rfl⟩ : ∃ r o, y = ix2 r o := ⟨y 0, y 1, eq_ix2 y⟩
    rw [after_mid]
    have hi := (index1 t).2.2.2.2.2.2.2
    congr 1
    · apply Fin.ext
      show 2048 * t.val + r.val = win1_7.index t 0 * 2048 + 1 * r.val
      rw [hi.1]; omega
    · apply Fin.ext
      show o.val = win1_7.index t 1 * 64 + 1 * o.val
      rw [hi.2]; omega
  refine (dat1 V c).arrAt_eq_of_covers 7 _ (by decide +kernel) fun t hf y => ?_
  blk_simp
  rw [after1_7]
  exact key t y

/-- The sums' blocks after the last point: the sums over all rows. -/
theorem last_sums1 (c : Dev nD) (o : Fin 64) :
    (outsAt1 V c t1_15.val t1_15.isLt).2.1 (ix2 0 o) = ∑ R, midV V c R o
    ∧ (outsAt1 V c t1_15.val t1_15.isLt).2.2 (ix2 0 o) = ∑ R, midV V c R o * midV V c R o := by
  have h := after_sums1 V c o 15 t1_15.isLt
  rw [upto_all, upto_all] at h
  exact h

/-- The second array: the layer's column sums. -/
theorem sum_array1 (c : Dev nD) : (dat1 V c).arrAt 8 cfg1.N = (fun j => ∑ R, midV V c R (j 1) : Vec Ideal S1x64 .f32) := by
  have key : ∀ j : S1x64.Idx, (outsAt1 V c t1_15.val t1_15.isLt).2.1 j = ∑ R, midV V c R (j 1) := by
    intro j
    obtain ⟨z, o, rfl⟩ : ∃ z o, j = ix2 z o := ⟨j 0, j 1, eq_ix2 j⟩
    obtain rfl : z = 0 := Subsingleton.elim _ _
    exact (last_sums1 V c o).1
  refine (dat1 V c).arrAt_eq_of_after_last 8 t1_15 (by decide +kernel) _ fun j => ?_
  blk_simp
  rw [after1_8]
  exact key j

/-- The third array: the column sums of its squares. -/
theorem squares_array1 (c : Dev nD) : (dat1 V c).arrAt 9 cfg1.N
    = (fun j => ∑ R, midV V c R (j 1) * midV V c R (j 1) : Vec Ideal S1x64 .f32) := by
  have key : ∀ j : S1x64.Idx, (outsAt1 V c t1_15.val t1_15.isLt).2.2 j = ∑ R, midV V c R (j 1) * midV V c R (j 1) := by
    intro j
    obtain ⟨z, o, rfl⟩ : ∃ z o, j = ix2 z o := ⟨j 0, j 1, eq_ix2 j⟩
    obtain rfl : z = 0 := Subsingleton.elim _ _
    exact (last_sums1 V c o).2
  refine (dat1 V c).arrAt_eq_of_after_last 9 t1_15 (by decide +kernel) _ fun j => ?_
  blk_simp
  rw [after1_9]
  exact key j

end Cert.Knn
-- ==== Proof.Region2.lean ====
/- What the third region leaves in its array, from the contents it is entered at: the second layer normalised. -/
module

public import proofs.«01_k».proof.Proof.Out1
public import proofs.«01_k».proof.Proof.Rows
public import Idealize.ShloMosaic.Lib.Pipeline.ValueKit

@[expose] public section

set_option maxRecDepth 16384

noncomputable section

namespace Cert.Knn

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- Where the windows' blocks sit, over the whole grid. -/
theorem index2 : ∀ t : Fin grid2.N,
    (win2_0.index t 0 = t.val ∧ win2_0.index t 1 = 0)
    ∧ (win2_1.index t 0 = 0 ∧ win2_1.index t 1 = 0) ∧ (win2_2.index t 0 = 0 ∧ win2_2.index t 1 = 0)
    ∧ (win2_3.index t 0 = 0 ∧ win2_3.index t 1 = 0) ∧ (win2_4.index t 0 = 0 ∧ win2_4.index t 1 = 0)
    ∧ (win2_5.index t 0 = t.val ∧ win2_5.index t 1 = 0) := by
  decide +kernel

theorem iblk2_0 (c : Dev nD) (t : Fin cfg2.N) (r : Fin 4096) (o : Fin 64) :
    (iblk2 V c 0 t : Vec Ideal S4096x64 .f32) (ix2 r o)
      = (V c main_v11_0 : Vec Ideal S32768x64 .f32) ((win2_5.blk t).view.emb (ix2 r o : S4096x64.Idx)) := by
  unfold iblk2
  rw [View.read_apply]
  show V c main_v11_0 _ = V c main_v11_0 _
  congr 1

theorem iblk2_1 (c : Dev nD) (t : Fin cfg2.N) (o : Fin 64) :
    (iblk2 V c 1 t : Vec Ideal S1x64 .f32) (ix2 0 o) = (V c main_v11_1 : Vec Ideal S1x64 .f32) (ix2 0 o) := by
  have hi := (index2 t).2.1
  unfold iblk2
  rw [View.read_apply]
  show V c main_v11_1 _ = V c main_v11_1 _
  congr 1
  funext a
  apply Fin.ext
  match a with
  | ⟨0, _⟩ => show win2_1.index t 0 * 1 + 1 * 0 = 0; rw [hi.1]
  | ⟨1, _⟩ => show win2_1.index t 1 * 64 + 1 * o.val = o.val; rw [hi.2]; omega

theorem iblk2_2 (c : Dev nD) (t : Fin cfg2.N) (o : Fin 64) :
    (iblk2 V c 2 t : Vec Ideal S1x64 .f32) (ix2 0 o) = (V c main_v11_2 : Vec Ideal S1x64 .f32) (ix2 0 o) := by
  have hi := (index2 t).2.2.1
  unfold iblk2
  rw [View.read_apply]
  show V c main_v11_2 _ = V c main_v11_2 _
  congr 1
  funext a
  apply Fin.ext
  match a with
  | ⟨0, _⟩ => show win2_2.index t 0 * 1 + 1 * 0 = 0; rw [hi.1]
  | ⟨1, _⟩ => show win2_2.index t 1 * 64 + 1 * o.val = o.val; rw [hi.2]; omega

theorem iblk2_3 (c : Dev nD) (t : Fin cfg2.N) (o : Fin 64) :
    (iblk2 V c 3 t : Vec Ideal S1x64 .f32) (ix2 0 o) = (V c main_v12 : Vec Ideal S1x64 .f32) (ix2 0 o) := by
  have hi := (index2 t).2.2.2.1
  unfold iblk2
  rw [View.read_apply]
  show V c main_v12 _ = V c main_v12 _
  congr 1
  funext a
  apply Fin.ext
  match a with
  | ⟨0, _⟩ => show win2_3.index t 0 * 1 + 1 * 0 = 0; rw [hi.1]
  | ⟨1, _⟩ => show win2_3.index t 1 * 64 + 1 * o.val = o.val; rw [hi.2]; omega

theorem iblk2_4 (c : Dev nD) (t : Fin cfg2.N) (o : Fin 64) :
    (iblk2 V c 4 t : Vec Ideal S1x64 .f32) (ix2 0 o) = (V c main_v13 : Vec Ideal S1x64 .f32) (ix2 0 o) := by
  have hi := (index2 t).2.2.2.2.1
  unfold iblk2
  rw [View.read_apply]
  show V c main_v13 _ = V c main_v13 _
  congr 1
  funext a
  apply Fin.ext
  match a with
  | ⟨0, _⟩ => show win2_4.index t 0 * 1 + 1 * 0 = 0; rw [hi.1]
  | ⟨1, _⟩ => show win2_4.index t 1 * 64 + 1 * o.val = o.val; rw [hi.2]; omega

/-- The second layer normalised, entry by entry, from the contents the region is entered at. -/
abbrev endV (c : Dev nD) : Vec Ideal S32768x64 .f32 := fun j =>
  onePass ((V c main_v11_1 : Vec Ideal S1x64 .f32) (ix2 0 (j 1))) ((V c main_v11_2 : Vec Ideal S1x64 .f32) (ix2 0 (j 1)))
    ((V c main_v12 : Vec Ideal S1x64 .f32) (ix2 0 (j 1))) ((V c main_v13 : Vec Ideal S1x64 .f32) (ix2 0 (j 1)))
    ((V c main_v11_0 : Vec Ideal S32768x64 .f32) j)

/-- The region's array: the second layer normalised. -/
theorem end_array (c : Dev nD) : (dat2 V c).arrAt 5 cfg2.N = endV V c := by
  have key : ∀ (t : Fin cfg2.N) (y : S4096x64.Idx),
      k2_pay1 (iblk2 V c 1 t) (iblk2 V c 2 t) (iblk2 V c 3 t) (iblk2 V c 4 t) (iblk2 V c 0 t) y
        = endV V c ((win2_5.blk t).view.emb y) := by
    intro t y
    obtain ⟨r, o, rfl⟩ : ∃ r o, y = ix2 r o := ⟨y 0, y 1, eq_ix2 y⟩
    have hj := (index2 t).2.2.2.2.2
    have ho : ((win2_5.blk t).view.emb (ix2 r o : S4096x64.Idx) 1 : Fin 64) = o := by
      apply Fin.ext
      show win2_5.index t 1 * 64 + 1 * o.val = o.val
      rw [hj.2]; omega
    rw [k2_pay1_apply, iblk2_0, iblk2_1, iblk2_2, iblk2_3, iblk2_4]
    unfold endV
    dsimp only
    rw [ho]
  refine (dat2 V c).arrAt_eq_of_covers 5 _ (by decide +kernel) fun t hf y => ?_
  blk_simp
  rw [after2_5, out2_5_eq]
  exact key t y

end Cert.Knn
-- ==== Proof.KernelValue.lean ====
/- What the kernel's result buffer ends holding: the model of the arguments, row by row. -/
module

public import proofs.«01_k».proof.Proof.KernelRun
public import proofs.«01_k».proof.Proof.Arguments
public import proofs.«01_k».proof.Proof.Host
public import proofs.«01_k».proof.Proof.Region0Arrays
public import proofs.«01_k».proof.Proof.Region1
public import proofs.«01_k».proof.Proof.Region2

@[expose] public section

set_option maxRecDepth 16384

noncomputable section

namespace Cert.Knn

open Idealize.ShloMosaic Idealize.ShloMosaic.TcCoe Cert.KernelIdeal Cert.KernelIdeal.Gen

variable (m : (ℓ : Loc nD τ sig) → Buf (Elt Ideal) ℓ) (ρ : Dev nD → PrngReg)

/-- The arguments at launch. -/
abbrev args (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The first region computes the model's first layer. -/
theorem linV_eq (c : Dev nD) (R : Fin 32768) (o : Fin 128) : linV (V1 m ρ) c R o = (args m c).Y0 R o := by
  unfold linV lin Args.Y0 Args.dist
  exact layer0_congr
    (fun q => sqDist_congr (fun k => congrFun (W1_args m ρ c main_arg0 (by decide)) _)
      (fun k => congrFun (W1_args m ρ c main_arg1 (by decide)) _))
    (fun k => congrFun (W1_args m ρ c main_arg2 (by decide)) _)
    (fun q k => congrFun (W1_args m ρ c main_arg3 (by decide)) _)
    (fun k => host_v1 (W0 m ρ c) k o) (fun k => host_v3 (W0 m ρ c) k o) (host_v5 (W0 m ρ c) o)

/-- The second region's rows are the first region's. -/
theorem v7_eq (c : Dev nD) (R : Fin 32768) (k : Fin 128) :
    (V3 m ρ c main_v7 : Vec Ideal S32768x128 .f32) (ix2 R k) = (args m c).Y0 R k := by
  refine (host_v7 (W2 m ρ c) R k).trans ?_
  refine (congrFun ((W2_arr m ρ c 7).trans (lin_array (V1 m ρ) c)) (ix3 (bOf R) (nOf R) k)).trans ?_
  show linV (V1 m ρ) c (rowAt (bOf R) (nOf R)) k = _
  rw [linV_eq, rowAt_of]

theorem v6_1_eq (c : Dev nD) (k : Fin 128) :
    (V3 m ρ c main_v6_1 : Vec Ideal S1x128 .f32) (ix2 0 k) = ∑ R, (args m c).Y0 R k := by
  refine (congrFun (W3_of m ρ c main_v6_1 (by decide)) (ix2 0 k)).trans ?_
  refine (congrFun ((W2_arr m ρ c 8).trans (sum_array (V1 m ρ) c)) (ix2 0 k)).trans ?_
  show (∑ R, linV (V1 m ρ) c R k : EReal) = _
  exact Finset.sum_congr rfl fun R _ => linV_eq m ρ c R k

theorem v6_2_eq (c : Dev nD) (k : Fin 128) :
    (V3 m ρ c main_v6_2 : Vec Ideal S1x128 .f32) (ix2 0 k) = ∑ R, (args m c).Y0 R k * (args m c).Y0 R k := by
  refine (congrFun (W3_of m ρ c main_v6_2 (by decide)) (ix2 0 k)).trans ?_
  refine (congrFun ((W2_arr m ρ c 9).trans (squares_array (V1 m ρ) c)) (ix2 0 k)).trans ?_
  show (∑ R, linV (V1 m ρ) c R k * linV (V1 m ρ) c R k : EReal) = _
  exact Finset.sum_congr rfl fun R _ => congrArg₂ (· * ·) (linV_eq m ρ c R k) (linV_eq m ρ c R k)

theorem v4_eq (c : Dev nD) (k : Fin 128) (o : Fin 64) :
    (V3 m ρ c main_v4 : Vec Ideal S128x64 .f32) (ix2 k o) = (args m c).w1 o k := by
  refine (congrFun (W3_of m ρ c main_v4 (by decide)) (ix2 k o)).trans ?_
  refine (congrFun (W2_of m ρ c main_v4 (by decide)) (ix2 k o)).trans ?_
  exact host_v4 (W0 m ρ c) k o

/-- The second region computes the model's second layer. -/
theorem midV_eq (c : Dev nD) (R : Fin 32768) (o : Fin 64) : midV (V3 m ρ) c R o = (args m c).Y1 R o := by
  unfold midV mid Args.Y1
  have h8 : ∀ k : Fin 128, (V3 m ρ c main_v8 : Vec Ideal S1x128 .f32) (ix2 0 k) = (args m c).g0 k := fun k =>
    (host_v8 (W2 m ρ c) k).trans (congrFun (W2_args m ρ c main_arg6 (by decide)) _)
  have h9 : ∀ k : Fin 128, (V3 m ρ c main_v9 : Vec Ideal S1x128 .f32) (ix2 0 k) = (args m c).β0 k := fun k =>
    (host_v9 (W2 m ρ c) k).trans (congrFun (W2_args m ρ c main_arg7 (by decide)) _)
  have h10 : (V3 m ρ c main_v10 : Vec Ideal S1x64 .f32) (ix2 0 o) = (args m c).b1 o :=
    (host_v10 (W2 m ρ c) o).trans (congrFun (W2_args m ρ c main_arg9 (by decide)) _)
  refine congrArg₂ (· + ·) (Finset.sum_congr rfl fun k _ => ?_) h10
  exact congrArg₂ (· * ·) (onePass_congr (v6_1_eq m ρ c k) (v6_2_eq m ρ c k) (h8 k) (h9 k) (v7_eq m ρ c R k)) (v4_eq m ρ c k o)

/-- The third region computes the model's result. -/
theorem v14_eq (c : Dev nD) (R : Fin 32768) (o : Fin 64) :
    (W6 m ρ c (Proc.devRef .tc main_v14) : Vec Ideal S32768x64 .f32) (ix2 R o) = (args m c).Z1 R o := by
  refine (congrFun ((W6_arr m ρ c 5).trans (end_array (V5 m ρ) c)) (ix2 R o)).trans ?_
  have h0 : (V5 m ρ c main_v11_0 : Vec Ideal S32768x64 .f32) (ix2 R o) = (args m c).Y1 R o := by
    refine (congrFun (W5_of m ρ c main_v11_0 (by decide)) (ix2 R o)).trans ?_
    refine (congrFun ((W4_arr m ρ c 7).trans (mid_array (V3 m ρ) c)) (ix2 R o)).trans ?_
    exact midV_eq m ρ c R o
  have h1 : (V5 m ρ c main_v11_1 : Vec Ideal S1x64 .f32) (ix2 0 o) = ∑ Q, (args m c).Y1 Q o := by
    refine (congrFun (W5_of m ρ c main_v11_1 (by decide)) (ix2 0 o)).trans ?_
    refine (congrFun ((W4_arr m ρ c 8).trans (sum_array1 (V3 m ρ) c)) (ix2 0 o)).trans ?_
    show (∑ Q, midV (V3 m ρ) c Q o : EReal) = _
    exact Finset.sum_congr rfl fun Q _ => midV_eq m ρ c Q o
  have h2 : (V5 m ρ c main_v11_2 : Vec Ideal S1x64 .f32) (ix2 0 o) = ∑ Q, (args m c).Y1 Q o * (args m c).Y1 Q o := by
    refine (congrFun (W5_of m ρ c main_v11_2 (by decide)) (ix2 0 o)).trans ?_
    refine (congrFun ((W4_arr m ρ c 9).trans (squares_array1 (V3 m ρ) c)) (ix2 0 o)).trans ?_
    show (∑ Q, midV (V3 m ρ) c Q o * midV (V3 m ρ) c Q o : EReal) = _
    exact Finset.sum_congr rfl fun Q _ => congrArg₂ (· * ·) (midV_eq m ρ c Q o) (midV_eq m ρ c Q o)
  have h12 : (V5 m ρ c main_v12 : Vec Ideal S1x64 .f32) (ix2 0 o) = (args m c).g1 o :=
    (host_v12 (W4 m ρ c) o).trans (congrFun (W4_args m ρ c main_arg10 (by decide)) _)
  have h13 : (V5 m ρ c main_v13 : Vec Ideal S1x64 .f32) (ix2 0 o) = (args m c).β1 o :=
    (host_v13 (W4 m ρ c) o).trans (congrFun (W4_args m ρ c main_arg11 (by decide)) _)
  show onePass ((V5 m ρ c main_v11_1 : Vec Ideal S1x64 .f32) (ix2 0 o)) ((V5 m ρ c main_v11_2 : Vec Ideal S1x64 .f32) (ix2 0 o))
    ((V5 m ρ c main_v12 : Vec Ideal S1x64 .f32) (ix2 0 o)) ((V5 m ρ c main_v13 : Vec Ideal S1x64 .f32) (ix2 0 o))
    ((V5 m ρ c main_v11_0 : Vec Ideal S32768x64 .f32) (ix2 R o)) = _
  exact onePass_congr h1 h2 h12 h13 h0

/-- The kernel's result: the model at every batch, query and output. -/
theorem kernel_value (c : Dev nD) (b : Fin 4) (n : Fin 8192) (o : Fin 64) :
    (W7 m ρ c (Proc.devRef .tc main_v15) : Vec Ideal S4x8192x64 .f32) (ix3 b n o) = (args m c).Z1 (rowAt b n) o :=
  (host_v15 (W6 m ρ c) b n o).trans (v14_eq m ρ c (rowAt b n) o)

end Cert.Knn
-- ==== Proof.Ranks.lean ====
/- `top_k` read at an index: the entries of a row in the order a stable sort, greatest first, leaves them; and what that
   order says of the three nearest of a row of distances whose first four places are strictly apart. -/
module

public import proofs.«01_k».proof.Proof.Nearest
public import Idealize.ShloMosaic.Lib.Pointwise
public import Idealize.ShloMosaic.Lib.SortFacts

@[expose] public section

set_option maxRecDepth 16384

noncomputable section

namespace Cert.Knn

open Idealize.ShloMosaic

/-- The place in the row `x` of the entry that comes `j`th when the row is ordered greatest first. -/
def rank {c : ℕ} (x : Fin c → EReal) (j : Fin c) : Fin c :=
  sortedFrom (fun k k' => FloatOps.cmpfTotal (F := Ideal) (φ := .f32) .gt (x k) (x k') == 1#1) j

theorem along_ix3 {a b c : ℕ} (p : Fin a) (q : Fin b) (r k : Fin c) :
    Shape.Idx.along (s := ⟨3, ![a, b, c]⟩) (ix3 p q r) 2 k = ix3 p q k := by
  funext i
  match i with
  | ⟨0, _⟩ => rfl
  | ⟨1, _⟩ => rfl
  | ⟨2, _⟩ => rfl

/-- The place a slice at offset zero reads. -/
theorem slice_ix3 {a b c w : ℕ} {α : Type} (hw : w ≤ c) (x : (⟨3, ![a, b, c]⟩ : Shape).Idx → α)
    (h : (⟨3, ![a, b, c]⟩ : Shape).Slices (fun _ => 0) ⟨3, ![a, b, w]⟩) (p : Fin a) (q : Fin b) (j : Fin w) :
    extractStridedSlice ⟨3, ![a, b, w]⟩ (fun _ => 0) x h (ix3 p q j) = x (ix3 p q (j.castLE hw)) := by
  unfold extractStridedSlice
  congr 1
  funext i
  match i with
  | ⟨0, _⟩ => exact Fin.ext (Nat.zero_add _)
  | ⟨1, _⟩ => exact Fin.ext (Nat.zero_add _)
  | ⟨2, _⟩ => exact Fin.ext (Nat.zero_add _)

/-- The order along a row of a rank-3 array is the order of that row. -/
theorem sorted_row {a b c : ℕ} (x : (⟨3, ![a, b, c]⟩ : Shape).Idx → Ideal .f32) (y : IVec ⟨3, ![a, b, c]⟩ 32)
    (p : Fin a) (q : Fin b) (r : Fin c) :
    (Host.sort2 ⟨3, ![a, b, c]⟩ 2 (fun l r => FloatOps.cmpfTotal .gt l.1 r.1) x y).1 (ix3 p q r)
        = x (ix3 p q (rank (fun k => x (ix3 p q k)) r))
      ∧ (Host.sort2 ⟨3, ![a, b, c]⟩ 2 (fun l r => FloatOps.cmpfTotal .gt l.1 r.1) x y).2 (ix3 p q r)
        = y (ix3 p q (rank (fun k => x (ix3 p q k)) r)) := by
  have hx : (fun k : Fin c => x (Shape.Idx.along (s := ⟨3, ![a, b, c]⟩) (ix3 p q r) 2 k)) = fun k => x (ix3 p q k) :=
    funext fun k => congrArg x (along_ix3 p q r k)
  have hr : rank (fun k : Fin c => x (Shape.Idx.along (s := ⟨3, ![a, b, c]⟩) (ix3 p q r) 2 k)) r
      = rank (fun k => x (ix3 p q k)) r := by rw [hx]
  constructor
  · exact (congrArg x (along_ix3 p q r _)).trans (congrArg (fun k => x (ix3 p q k)) hr)
  · exact (congrArg y (along_ix3 p q r _)).trans (congrArg (fun k => y (ix3 p q k)) hr)

/-- The values of `top_k`: the entries at the first places of the order. -/
theorem topK_value {a b c w : ℕ} (hw : w ≤ c) (x : (⟨3, ![a, b, c]⟩ : Shape).Idx → Ideal .f32)
    (h : (⟨3, ![a, b, c]⟩ : Shape).Slices (fun _ => 0) ⟨3, ![a, b, w]⟩) (p : Fin a) (q : Fin b) (j : Fin w) :
    (Host.topK ⟨3, ![a, b, w]⟩ 2 (FloatOps.cmpfTotal .gt) x h).1 (ix3 p q j)
      = x (ix3 p q (rank (fun k => x (ix3 p q k)) (j.castLE hw))) := by
  unfold Host.topK
  dsimp only
  exact (slice_ix3 hw _ h p q j).trans (sorted_row x _ p q _).1

/-- The indices of `top_k`: those places, as words. -/
theorem topK_index {a b c w : ℕ} (hw : w ≤ c) (x : (⟨3, ![a, b, c]⟩ : Shape).Idx → Ideal .f32)
    (h : (⟨3, ![a, b, c]⟩ : Shape).Slices (fun _ => 0) ⟨3, ![a, b, w]⟩) (p : Fin a) (q : Fin b) (j : Fin w) :
    (Host.topK ⟨3, ![a, b, w]⟩ 2 (FloatOps.cmpfTotal .gt) x h).2 (ix3 p q j)
      = BitVec.ofNat 32 (rank (fun k => x (ix3 p q k)) (j.castLE hw)).val := by
  unfold Host.topK
  dsimp only
  exact (slice_ix3 hw _ h p q j).trans (sorted_row x _ p q _).2

theorem gt_iff (x y : EReal) : (FloatOps.cmpfTotal (F := Ideal) (φ := .f32) .gt x y == 1#1) = decide (y < x) := by
  show (BitVec.ofBool (decide (y < x)) == 1#1) = decide (y < x)
  by_cases h : y < x <;> simp [h]

/-- No later place holds a greater entry. -/
theorem rank_le (x : Fin 2048 → EReal) (i j : Fin 2048) (h : i < j) : x (rank x j) ≤ x (rank x i) := by
  unfold rank
  simp only [gt_iff]
  have := sortedFrom_noInversion (fun k k' => decide (x k' < x k)) (fun k k' => decide (x k' < x k))
    (fun a b hab => by simp only [decide_eq_true_eq, decide_eq_false_iff_not] at hab ⊢; exact hab.le.not_gt)
    (fun a b hab => hab)
    (fun a b c hab hbc => by
      simp only [decide_eq_false_iff_not, not_lt] at hab hbc ⊢; exact hab.trans hbc) i j h
  simpa only [decide_eq_false_iff_not, not_lt] using this

theorem rank_surjective (x : Fin 2048 → EReal) : Function.Surjective (rank x) := sortedFrom_surjective _

/-- Where the first four of the negated distances in order are strictly apart, the first three places are the three
    nearest. -/
theorem nearest_of_rank (d : Fin 2048 → EReal) (σ : Fin 2048 → Fin 2048) (hσ : σ = rank fun k => -d k)
    (h01 : -d (σ 1) < -d (σ 0)) (h12 : -d (σ 2) < -d (σ 1)) (h23 : -d (σ 3) < -d (σ 2)) :
    Nearest d (σ 0) (σ 1) (σ 2) := by
  rw [EReal.neg_lt_neg_iff] at h01 h12 h23
  refine ⟨h01, h12, fun k h0 h1 h2 => ?_, h23.trans_le le_top⟩
  obtain ⟨j, rfl⟩ : ∃ j, σ j = k := by rw [hσ]; exact rank_surjective _ k
  have hj : (3 : Fin 2048) ≤ j := by
    have a0 : j ≠ 0 := fun e => h0 (by rw [e])
    have a1 : j ≠ 1 := fun e => h1 (by rw [e])
    have a2 : j ≠ 2 := fun e => h2 (by rw [e])
    simp only [ne_eq, Fin.ext_iff, Fin.le_def] at a0 a1 a2 ⊢
    have e0 : ((0 : Fin 2048) : ℕ) = 0 := rfl
    have e1 : ((1 : Fin 2048) : ℕ) = 1 := rfl
    have e2 : ((2 : Fin 2048) : ℕ) = 2 := rfl
    have e3 : ((3 : Fin 2048) : ℕ) = 3 := rfl
    omega
  rcases hj.eq_or_lt with rfl | hj
  · exact h23
  · refine h23.trans_le ?_
    rw [← EReal.neg_le_neg_iff, hσ]
    exact rank_le (fun k => -d k) 3 j hj

end Cert.Knn
-- ==== Proof.RefDist.lean ====
/- The reference's squared distances and its two sorted columns, at an index. -/
module

public import proofs.«01_k».proof.Proof.Gen.ReferenceIdeal.Read
public import proofs.«01_k».proof.Proof.Model
public import proofs.«01_k».proof.Proof.Ranks

@[expose] public section

set_option maxRecDepth 16384

noncomputable section

namespace Cert.Knn

open Idealize.ShloMosaic Cert.ReferenceIdeal Cert.ReferenceIdeal.Read

/-- The reference's order of the terms of a squared distance. -/
theorem dist_terms (s t e : EReal) :
    Ideal.ofBits .f32 0xC0000000#32 * e + (Ideal.ofBits .f32 0x00000000#32 + s) + (Ideal.ofBits .f32 0x00000000#32 + t)
      = s - Ideal.ofBits .f32 0x40000000#32 * e + t := by
  rw [Ideal.ofBits_zero_f32, zero_add, zero_add, ofBits_neg_two, ofBits_two, add_comm _ s, sub_eq_add_neg, ← EReal.neg_mul,
    EReal.coe_neg]

variable (x0 : Vec Ideal S4x8192x3 .f32) (x1 : Vec Ideal S4x2048x3 .f32)

/-- The reference's squared distance. -/
theorem ref_dist (b : Fin 4) (n : Fin 8192) (m : Fin 2048) :
    (val_main_v12 (F := Ideal) x0 x1 (ix3 b n m) : EReal)
      = sqDist (fun k => x0 (ix3 b n k)) (fun k => x1 (ix3 b m k)) := by
  refine Eq.trans ?_ (dist_terms _ _ _)
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- What the reference sorts: the negated distances. -/
theorem ref_neg (b : Fin 4) (n : Fin 8192) (m : Fin 2048) :
    (val_main_v13 (F := Ideal) x0 x1 (ix3 b n m) : EReal)
      = -sqDist (fun k => x0 (ix3 b n k)) (fun k => x1 (ix3 b m k)) :=
  congrArg (fun z : EReal => -z) (ref_dist x0 x1 b n m)

end Cert.Knn
-- ==== Proof.RefGather.lean ====
/- The reference's gather read at an index: a row of the batch's table, at the place a word names. -/
module

public import Idealize.ShloMosaic.Lib.Pointwise

@[expose] public section

set_option maxRecDepth 16384

noncomputable section

namespace Cert.Knn

open Idealize.ShloMosaic

/-- Where the word at a place names an entry in range, the gather reads that entry of the same batch. -/
theorem gather_rows {B M N K C : ℕ} {α : Type}
    (wf : GatherDims.WF ⟨3, ![B, M, C]⟩ ⟨4, ![B, N, K, 1]⟩ ⟨4, ![B, N, K, C]⟩ [3] [1] [0] [1] [0] 3 ![1, 1, C])
    (x : (⟨3, ![B, M, C]⟩ : Shape).Idx → α) (idx : IVec ⟨4, ![B, N, K, 1]⟩ 32) (b : Fin B) (n : Fin N) (j : Fin K) (k : Fin C)
    (v : Fin M) (hv : (idx (ix4 b n j 0)).toInt.toNat = v.val) :
    Host.gather (⟨[3], [1], [0], [0], [1], 3, ![1, 1, C], wf⟩ : GatherDims _ _ _) x idx (ix4 b n j k) = x (ix3 b v k) := by
  unfold Host.gather
  refine congrArg x (funext fun a => ?_)
  match a with
  | ⟨0, _⟩ =>
    refine Fin.ext ?_
    show 0 + b.val + 0 = b.val
    omega
  | ⟨1, _⟩ =>
    refine Fin.ext ?_
    show min (idx (GatherDims.siIdx _ _ _)).toInt.toNat (M - 1) + 0 + 0 = v.val
    have e : ∀ (d : GatherDims ⟨3, ![B, M, C]⟩ ⟨4, ![B, N, K, 1]⟩ ⟨4, ![B, N, K, C]⟩) (c : Fin d.startIndexMap.length),
        d = ⟨[3], [1], [0], [0], [1], 3, ![1, 1, C], wf⟩ → GatherDims.siIdx d (ix4 b n j k) c = ix4 b n j 0 := by
      intro d c hd
      subst hd
      funext i
      match i with
      | ⟨0, _⟩ => rfl
      | ⟨1, _⟩ => rfl
      | ⟨2, _⟩ => rfl
      | ⟨3, _⟩ => exact Subsingleton.elim (α := Fin 1) _ _
    rw [e _ _ rfl, hv]
    have := v.isLt
    omega
  | ⟨2, _⟩ =>
    refine Fin.ext ?_
    show 0 + 0 + k.val = k.val
    omega

end Cert.Knn
-- ==== Proof.RefMix.lean ====
/- The reference's three nearest neighbours: their weights, their features and the mix, at an index. -/
module

public import proofs.«01_k».proof.Proof.RefDist
public import proofs.«01_k».proof.Proof.RefGather

@[expose] public section

set_option maxRecDepth 16384

noncomputable section

namespace Cert.Knn

open Idealize.ShloMosaic Cert.ReferenceIdeal Cert.ReferenceIdeal.Read

variable (x0 : Vec Ideal S4x8192x3 .f32) (x1 : Vec Ideal S4x2048x3 .f32)

/-- The order in which the reference takes the candidates of a query. -/
def order (b : Fin 4) (n : Fin 8192) : Fin 2048 → Fin 2048 :=
  rank fun m => -sqDist (fun k => x0 (ix3 b n k)) (fun k => x1 (ix3 b m k))

/-- The distance of the candidate the reference takes `j`th. -/
def orderDist (b : Fin 4) (n : Fin 8192) (j : Fin 3) : EReal :=
  sqDist (fun k => x0 (ix3 b n k)) (fun k => x1 (ix3 b (order x0 x1 b n (j.castLE (by omega))) k))

theorem row_eq (b : Fin 4) (n : Fin 8192) :
    rank (fun m => (val_main_v13 (F := Ideal) x0 x1 (ix3 b n m) : EReal)) = order x0 x1 b n := by
  unfold order
  exact congrArg rank (funext fun m => ref_neg x0 x1 b n m)

/-- The sorted values. -/
theorem ref_value (b : Fin 4) (n : Fin 8192) (j : Fin 3) :
    (val_main_values (F := Ideal) x0 x1 (ix3 b n j) : EReal) = -orderDist x0 x1 b n j := by
  refine (topK_value (by omega) (val_main_v13 (F := Ideal) x0 x1) _ b n j).trans ?_
  exact (congrArg (fun r : Fin 2048 → Fin 2048 => (val_main_v13 (F := Ideal) x0 x1 (ix3 b n (r _)) : EReal))
    (row_eq x0 x1 b n)).trans (ref_neg x0 x1 b n _)

/-- The sorted places. -/
theorem ref_index (b : Fin 4) (n : Fin 8192) (j : Fin 3) :
    (val_main_indices (F := Ideal) x0 x1 (ix3 b n j) : BitVec 32)
      = BitVec.ofNat 32 (order x0 x1 b n (j.castLE (by omega))).val := by
  refine (topK_index (by omega) (val_main_v13 (F := Ideal) x0 x1) _ b n j).trans ?_
  exact congrArg (fun r : Fin 2048 → Fin 2048 => BitVec.ofNat 32 (r (j.castLE (by omega))).val) (row_eq x0 x1 b n)

/-- The unscaled weight of the `j`th neighbour. -/
theorem ref_wt (b : Fin 4) (n : Fin 8192) (j : Fin 3) :
    (val_main_v17 (F := Ideal) x0 x1 (ix3 b n j) : EReal) = wt (orderDist x0 x1 b n j) := by
  have h : (val_main_v17 (F := Ideal) x0 x1 (ix3 b n j) : EReal) = Ideal.div (Ideal.ofBits .f32 0x3F800000#32)
      (max (Ideal.ofBits .f32 0x2EDBE6FF#32) (-(val_main_values (F := Ideal) x0 x1 (ix3 b n j) : EReal))) := by
    pointwise [val_main_v17, val_main_v16, val_main_v15, val_main_v14, val_main_call0_v1, val_main_call0_v0,
      val_main_cst_2, val_main_cst_3]
    rfl
  rw [h, ref_value, neg_neg, Ideal.ofBits_one_f32, max_comm]
  rfl

/-- The scaled weight of the `j`th neighbour. -/
theorem ref_share (b : Fin 4) (n : Fin 8192) (j : Fin 3) :
    (val_main_v22 (F := Ideal) x0 x1 (ix3 b n j) : EReal)
      = share (orderDist x0 x1 b n 0) (orderDist x0 x1 b n 1) (orderDist x0 x1 b n 2) (orderDist x0 x1 b n j) := by
  have h : (val_main_v22 (F := Ideal) x0 x1 (ix3 b n j) : EReal) = Ideal.div (val_main_v17 (F := Ideal) x0 x1 (ix3 b n j) : EReal)
      (max (Ideal.ofBits .f32 0x322BCC77#32) (Ideal.ofBits .f32 0x00000000#32
        + ∑ i : Fin 3, (val_main_v17 (F := Ideal) x0 x1 (ix3 b n i) : EReal))) := by
    pointwise [val_main_v22, val_main_v21, val_main_v20, val_main_v19, val_main_v18, val_main_call1_v1, val_main_call1_v0,
      val_main_cst_4, val_main_cst_5]
    rfl
  rw [h, Ideal.ofBits_zero_f32, zero_add, Fin.sum_univ_three, ref_wt, ref_wt, ref_wt, ref_wt, max_comm]
  rfl

/-- The start index of the gather. -/
theorem ref_start (b : Fin 4) (n : Fin 8192) (j : Fin 3) :
    (val_main_v28 (F := Ideal) x0 x1 (ix4 b n j 0) : BitVec 32).toInt.toNat
      = (order x0 x1 b n (j.castLE (by omega))).val := by
  have h : (val_main_v28 (F := Ideal) x0 x1 (ix4 b n j 0) : BitVec 32)
      = if IntOp.cmpi .slt (val_main_indices (F := Ideal) x0 x1 (ix3 b n j) : BitVec 32) 0#32 = 1#1
        then IntOp.addi (val_main_indices (F := Ideal) x0 x1 (ix3 b n j) : BitVec 32) 2048#32
        else (val_main_indices (F := Ideal) x0 x1 (ix3 b n j) : BitVec 32) := by
    pointwise [val_main_v28, val_main_v27, val_main_v26, val_main_v25, val_main_v24, val_main_v23, val_main_c, val_main_c_6]
    rfl
  rw [h, ref_index]
  generalize order x0 x1 b n (j.castLE (by omega)) = v
  have hv := v.isLt
  have hi : (BitVec.ofNat 32 v.val).toInt = (v.val : ℤ) := by
    rw [BitVec.toInt_eq_toNat_cond, BitVec.toNat_ofNat, Nat.mod_eq_of_lt (by omega), if_pos (by omega)]
  have hc : ¬ IntOp.cmpi .slt (BitVec.ofNat 32 v.val) 0#32 = 1#1 := by
    show ¬ BitVec.ofBool ((BitVec.ofNat 32 v.val).slt 0#32) = 1#1
    rw [BitVec.slt_eq_decide, hi, BitVec.toInt_zero, decide_eq_false (not_lt.2 (Int.natCast_nonneg v.val))]
    decide
  rw [if_neg hc, hi, Int.toNat_natCast]

/-- The features gathered for the `j`th neighbour. -/
theorem ref_gather (x3 : Vec Ideal S4x2048x128 .f32) (b : Fin 4) (n : Fin 8192) (j : Fin 3) (k : Fin 128) :
    (val_main_v29 (F := Ideal) x0 x1 x3 (ix4 b n j k) : EReal) = x3 (ix3 b (order x0 x1 b n (j.castLE (by omega))) k) :=
  gather_rows gather_S4x2048x128_S4x8192x3x1_S4x8192x3x128_3_1_0_0_1_3_11128.wf x3 (val_main_v28 (F := Ideal) x0 x1) b n j k _
    (ref_start x0 x1 b n j)

/-- The mixed features, where the three nearest are told apart. -/
theorem ref_mix (x3 : Vec Ideal S4x2048x128 .f32) (b : Fin 4) (n : Fin 8192) (k : Fin 128)
    (hn : Nearest (fun m => sqDist (fun k => x0 (ix3 b n k)) (fun k => x1 (ix3 b m k)))
      (order x0 x1 b n 0) (order x0 x1 b n 1) (order x0 x1 b n 2)) :
    (val_main_v33 (F := Ideal) x0 x1 x3 (ix3 b n k) : EReal)
      = pick (fun m => sqDist (fun k => x0 (ix3 b n k)) (fun k => x1 (ix3 b m k))) (fun m => x3 (ix3 b m k)) := by
  have h : (val_main_v33 (F := Ideal) x0 x1 x3 (ix3 b n k) : EReal) = Ideal.ofBits .f32 0x00000000#32
      + ∑ j : Fin 3, (val_main_v22 (F := Ideal) x0 x1 (ix3 b n j) : EReal)
        * (val_main_v29 (F := Ideal) x0 x1 x3 (ix4 b n j k) : EReal) := by
    pointwise [val_main_v33, val_main_v32, val_main_v31, val_main_v30, val_main_cst_7]
  rw [h, Ideal.ofBits_zero_f32, zero_add, Fin.sum_univ_three, ref_share, ref_share, ref_share, ref_gather, ref_gather,
    ref_gather, hn.pick_eq]
  rfl

end Cert.Knn
-- ==== Proof.RefLayer.lean ====
/- The reference's first linear layer, at an index. -/
module

public import proofs.«01_k».proof.Proof.RefMix

@[expose] public section

set_option maxRecDepth 16384

noncomputable section

namespace Cert.Knn

open Idealize.ShloMosaic Cert.ReferenceIdeal Cert.ReferenceIdeal.Read

variable (x0 : Vec Ideal S4x8192x3 .f32) (x1 : Vec Ideal S4x2048x3 .f32) (x2 : Vec Ideal S4x8192x64 .f32)
  (x3 : Vec Ideal S4x2048x128 .f32) (x4 : Vec Ideal S128x192 .f32) (x5 : Vec Ideal S128 .f32)

/-- The first 64 of the joined features are the query's own. -/
theorem ref_own (b : Fin 4) (n : Fin 8192) (k : Fin 64) :
    (val_main_v34 (F := Ideal) x0 x1 x2 x3 (ix3 b n ⟨k.val, by omega⟩) : EReal) = x2 (ix3 b n k) := by
  have hk : k.val < 64 := k.isLt
  pointwise [val_main_v34]

/-- The other 128 are the mixed ones. -/
theorem ref_mixed (b : Fin 4) (n : Fin 8192) (k : Fin 128) :
    (val_main_v34 (F := Ideal) x0 x1 x2 x3 (ix3 b n ⟨64 + k.val, by omega⟩) : EReal)
      = val_main_v33 (F := Ideal) x0 x1 x3 (ix3 b n k) := by
  have hk : k.val < 128 := k.isLt
  pointwise [val_main_v34]

/-- The first layer, where the query's three nearest are told apart. -/
theorem ref_layer0 (b : Fin 4) (o : Fin 128) (n : Fin 8192)
    (hn : Nearest (fun m => sqDist (fun k => x0 (ix3 b n k)) (fun k => x1 (ix3 b m k)))
      (order x0 x1 b n 0) (order x0 x1 b n 1) (order x0 x1 b n 2)) :
    (val_main_v40 (F := Ideal) x0 x1 x2 x3 x4 x5 (ix3 b o n) : EReal)
      = layer0 (fun m => sqDist (fun k => x0 (ix3 b n k)) (fun k => x1 (ix3 b m k))) (fun k => x2 (ix3 b n k))
        (fun m k => x3 (ix3 b m k)) (fun k => x4 (ix2 o ⟨k.val, by omega⟩)) (fun k => x4 (ix2 o ⟨64 + k.val, by omega⟩))
        (x5 (ix1 o)) := by
  have h : (val_main_v40 (F := Ideal) x0 x1 x2 x3 x4 x5 (ix3 b o n) : EReal)
      = ∑ k : Fin 192, (val_main_v34 (F := Ideal) x0 x1 x2 x3 (ix3 b n k) : EReal) * (x4 (ix2 o k) : EReal) + (x5 (ix1 o) : EReal) := by
    pointwise [val_main_v40, val_main_v39, val_main_v38, val_main_v37, val_main_v36, val_main_v35]
  rw [h]
  unfold layer0
  refine congrArg (fun z : EReal => z + (x5 (ix1 o) : EReal)) ?_
  refine (Fin.sum_univ_add (a := 64) (b := 128)
    (fun k => (val_main_v34 (F := Ideal) x0 x1 x2 x3 (ix3 b n k) : EReal) * (x4 (ix2 o k) : EReal))).trans ?_
  refine congr (congrArg (fun y z : EReal => y + z) (Finset.sum_congr rfl fun k _ => ?_)) (Finset.sum_congr rfl fun k _ => ?_)
  · exact congrArg (fun z : EReal => z * _) (ref_own x0 x1 x2 x3 b n k)
  · exact congrArg (fun z : EReal => z * _) ((ref_mixed x0 x1 x2 x3 b n k).trans (ref_mix x0 x1 x3 b n k hn))

end Cert.Knn
-- ==== Proof.RefSums.lean ====
/- Sums the reference takes over two axes at once, as sums over the rows. -/
module

public import proofs.«01_k».proof.Proof.Rows
public import Idealize.ShloMosaic.Lib.Pointwise
public import Idealize.ShloMosaic.Lib.IdealHost

@[expose] public section

set_option maxRecDepth 16384

noncomputable section

namespace Cert.Knn

open Idealize.ShloMosaic

/-- A sum over the batch and query axes is the initial value and the sum over the rows. -/
theorem sum_planes {O : ℕ} {u : Shape} (x : FVec Ideal ⟨3, ![4, O, 8192]⟩ .f32) (init : u.Idx → Ideal .f32)
    (h : (⟨3, ![4, O, 8192]⟩ : Shape).ReducesTo [0, 2] ⟨1, ![O]⟩) (hu : 0 < u.numel) (o : Fin O) :
    (Host.reduceAdd x init h hu (ix1 o) : EReal)
      = init (Shape.Idx.first hu) + ∑ R : Fin 32768, (x (ix3 (bOf R) o (nOf R)) : EReal) := by
  show Ideal.hostReduceAdd h x (init (Shape.Idx.first hu)) (ix1 o) = _
  unfold Ideal.hostReduceAdd
  refine congrArg (fun z : EReal => (init (Shape.Idx.first hu) : EReal) + z) ?_
  have key : ∀ i : (⟨3, ![4, O, 8192]⟩ : Shape).Idx, h.drop i = ix1 o ↔ i 1 = o := fun i => by
    have e : h.drop i 0 = i 1 := Fin.ext (Shape.ReducesTo.drop_apply_val_of_eq h i 0 1 (Nat.zero_lt_one) rfl)
    constructor
    · intro hd; exact e.symm.trans (congrFun hd 0)
    · intro hi
      rw [eq_ix1 (h.drop i), e, hi]
  refine (Finset.sum_bij' (fun (R : Fin 32768) _ => (ix3 (bOf R) o (nOf R) : (⟨3, ![4, O, 8192]⟩ : Shape).Idx))
    (fun i _ => rowAt (i 0) (i 2)) ?_ ?_ ?_ ?_ ?_).symm
  · intro R _
    exact Finset.mem_filter.2 ⟨Finset.mem_univ _, (key _).2 rfl⟩
  · intro i _
    exact Finset.mem_univ _
  · intro R _
    exact rowAt_of R
  · intro i hi
    have := (key i).1 (Finset.mem_filter.1 hi).2
    refine Eq.trans ?_ (eq_ix3 i).symm
    show ix3 (bOf (rowAt (i 0) (i 2))) o (nOf (rowAt (i 0) (i 2))) = _
    exact congr (congr (congrArg ix3 (bOf_rowAt (i 0) (i 2))) this.symm) (nOf_rowAt (i 0) (i 2))
  · intro R _
    rfl

/-- So, from zero, it is the sum of what the array holds row by row. -/
theorem sum_rows {O : ℕ} {u : Shape} {x : FVec Ideal ⟨3, ![4, O, 8192]⟩ .f32} {init : u.Idx → Ideal .f32}
    (h : (⟨3, ![4, O, 8192]⟩ : Shape).ReducesTo [0, 2] ⟨1, ![O]⟩) (hu : 0 < u.numel) (o : Fin O) (f : Fin 32768 → EReal)
    (h0 : (init (Shape.Idx.first hu) : EReal) = 0) (hf : ∀ b n, (x (ix3 b o n) : EReal) = f (rowAt b n)) :
    (Host.reduceAdd x init h hu (ix1 o) : EReal) = ∑ R, f R := by
  refine (sum_planes x init h hu o).trans ?_
  refine Eq.trans (congrArg (fun z : EReal => z + _) h0) ((zero_add _).trans ?_)
  exact Finset.sum_congr rfl fun R _ => (hf _ _).trans (congrArg f (rowAt_of R))

end Cert.Knn
-- ==== Proof.RefNorm.lean ====
/- The reference's two batch norms, at an index, from the layer each normalises. -/
module

public import proofs.«01_k».proof.Proof.Gen.ReferenceIdeal.Read
public import proofs.«01_k».proof.Proof.Model
public import proofs.«01_k».proof.Proof.RefSums

@[expose] public section

set_option maxRecDepth 16384

noncomputable section

namespace Cert.Knn

open Idealize.ShloMosaic Cert.ReferenceIdeal Cert.ReferenceIdeal.Read

variable (x0 : Vec Ideal S4x8192x3 .f32) (x1 : Vec Ideal S4x2048x3 .f32) (x2 : Vec Ideal S4x8192x64 .f32)
  (x3 : Vec Ideal S4x2048x128 .f32) (x4 : Vec Ideal S128x192 .f32) (x5 x6 x7 : Vec Ideal S128 .f32)
  (x8 : Vec Ideal S64x128 .f32) (x9 x10 x11 : Vec Ideal S64 .f32)

/-- The first batch norm is the two-pass one of the rows of the layer. -/
theorem ref_norm0 (f : Fin 32768 → EReal) (o : Fin 128)
    (hf : ∀ b n, (val_main_v40 (F := Ideal) x0 x1 x2 x3 x4 x5 (ix3 b o n) : EReal) = f (rowAt b n)) (b : Fin 4) (n : Fin 8192) :
    (val_main_v65 (F := Ideal) x0 x1 x2 x3 x4 x5 x6 x7 (ix3 b o n) : EReal)
      = twoPass (∑ R, f R) (∑ R, centred (∑ Q, f Q) (f R) * centred (∑ Q, f Q) (f R)) (x6 (ix1 o)) (x7 (ix1 o))
        (f (rowAt b n)) := by
  have h41 : (val_main_v41 (F := Ideal) x0 x1 x2 x3 x4 x5 (ix1 o) : EReal) = ∑ R, f R :=
    sum_rows _ _ o f Ideal.ofBits_zero_f32 hf
  have h46 : ∀ b n, (val_main_v46 (F := Ideal) x0 x1 x2 x3 x4 x5 (ix3 b o n) : EReal)
      = centred (∑ R, f R) (f (rowAt b n)) := fun b n => by
    have h : (val_main_v46 (F := Ideal) x0 x1 x2 x3 x4 x5 (ix3 b o n) : EReal)
        = (val_main_v40 (F := Ideal) x0 x1 x2 x3 x4 x5 (ix3 b o n) : EReal)
          - Ideal.div (val_main_v41 (F := Ideal) x0 x1 x2 x3 x4 x5 (ix1 o) : EReal) (Ideal.ofBits .f32 0x47000000#32) := by
      pointwise [val_main_v46, val_main_v45, val_main_v44, val_main_v43, val_main_v42, val_main_cst_9]
    rw [h, hf, h41]
    rfl
  have h48 : (val_main_v48 (F := Ideal) x0 x1 x2 x3 x4 x5 (ix1 o) : EReal)
      = ∑ R, centred (∑ Q, f Q) (f R) * centred (∑ Q, f Q) (f R) :=
    sum_rows _ _ o (fun R => centred (∑ Q, f Q) (f R) * centred (∑ Q, f Q) (f R)) Ideal.ofBits_zero_f32
      fun b n => congr (congrArg (fun y z : EReal => y * z) (h46 b n)) (h46 b n)
  have h : (val_main_v65 (F := Ideal) x0 x1 x2 x3 x4 x5 x6 x7 (ix3 b o n) : EReal)
      = max (Ideal.div ((val_main_v40 (F := Ideal) x0 x1 x2 x3 x4 x5 (ix3 b o n) : EReal)
            - Ideal.div (val_main_v41 (F := Ideal) x0 x1 x2 x3 x4 x5 (ix1 o) : EReal) (Ideal.ofBits .f32 0x47000000#32))
          (Ideal.sqrt (Ideal.div (val_main_v48 (F := Ideal) x0 x1 x2 x3 x4 x5 (ix1 o) : EReal) (Ideal.ofBits .f32 0x47000000#32)
            + Ideal.ofBits .f32 0x3727C5AC#32)) * (x6 (ix1 o) : EReal) + (x7 (ix1 o) : EReal)) (Ideal.ofBits .f32 0x00000000#32) := by
    pointwise [val_main_v65, val_main_v64, val_main_v63, val_main_v62, val_main_v61, val_main_v60, val_main_v59, val_main_v58,
      val_main_v57, val_main_v56, val_main_v55, val_main_v54, val_main_v53, val_main_v52, val_main_v51, val_main_v50,
      val_main_v49, val_main_v44, val_main_v43, val_main_v42, val_main_call2_v0, val_main_call2_cst, val_main_cst_9,
      val_main_cst_11, val_main_cst_12]
  rw [h, hf, h41, h48, Ideal.ofBits_zero_f32]
  rfl

/-- The second layer from the first batch norm. -/
theorem ref_layer1 (b : Fin 4) (o : Fin 64) (n : Fin 8192) :
    (val_main_v70 (F := Ideal) x0 x1 x2 x3 x4 x5 x6 x7 x8 x9 (ix3 b o n) : EReal)
      = ∑ k : Fin 128, (val_main_v65 (F := Ideal) x0 x1 x2 x3 x4 x5 x6 x7 (ix3 b k n) : EReal) * (x8 (ix2 o k) : EReal)
        + (x9 (ix1 o) : EReal) := by
  pointwise [val_main_v70, val_main_v69, val_main_v68, val_main_v67, val_main_v66]

/-- The second batch norm is the two-pass one of the rows of its layer. -/
theorem ref_norm1 (f : Fin 32768 → EReal) (o : Fin 64)
    (hf : ∀ b n, (val_main_v70 (F := Ideal) x0 x1 x2 x3 x4 x5 x6 x7 x8 x9 (ix3 b o n) : EReal) = f (rowAt b n))
    (b : Fin 4) (n : Fin 8192) :
    (val_main_v96 (F := Ideal) x0 x1 x2 x3 x4 x5 x6 x7 x8 x9 x10 x11 (ix3 b n o) : EReal)
      = twoPass (∑ R, f R) (∑ R, centred (∑ Q, f Q) (f R) * centred (∑ Q, f Q) (f R)) (x10 (ix1 o)) (x11 (ix1 o))
        (f (rowAt b n)) := by
  have h71 : (val_main_v71 (F := Ideal) x0 x1 x2 x3 x4 x5 x6 x7 x8 x9 (ix1 o) : EReal) = ∑ R, f R :=
    sum_rows _ _ o f Ideal.ofBits_zero_f32 hf
  have h76 : ∀ b n, (val_main_v76 (F := Ideal) x0 x1 x2 x3 x4 x5 x6 x7 x8 x9 (ix3 b o n) : EReal)
      = centred (∑ R, f R) (f (rowAt b n)) := fun b n => by
    have h : (val_main_v76 (F := Ideal) x0 x1 x2 x3 x4 x5 x6 x7 x8 x9 (ix3 b o n) : EReal)
        = (val_main_v70 (F := Ideal) x0 x1 x2 x3 x4 x5 x6 x7 x8 x9 (ix3 b o n) : EReal)
          - Ideal.div (val_main_v71 (F := Ideal) x0 x1 x2 x3 x4 x5 x6 x7 x8 x9 (ix1 o) : EReal)
            (Ideal.ofBits .f32 0x47000000#32) := by
      pointwise [val_main_v76, val_main_v75, val_main_v74, val_main_v73, val_main_v72, val_main_cst_14]
    rw [h, hf, h71]
    rfl
  have h78 : (val_main_v78 (F := Ideal) x0 x1 x2 x3 x4 x5 x6 x7 x8 x9 (ix1 o) : EReal)
      = ∑ R, centred (∑ Q, f Q) (f R) * centred (∑ Q, f Q) (f R) :=
    sum_rows _ _ o (fun R => centred (∑ Q, f Q) (f R) * centred (∑ Q, f Q) (f R)) Ideal.ofBits_zero_f32
      fun b n => congr (congrArg (fun y z : EReal => y * z) (h76 b n)) (h76 b n)
  have h : (val_main_v96 (F := Ideal) x0 x1 x2 x3 x4 x5 x6 x7 x8 x9 x10 x11 (ix3 b n o) : EReal)
      = max (Ideal.div ((val_main_v70 (F := Ideal) x0 x1 x2 x3 x4 x5 x6 x7 x8 x9 (ix3 b o n) : EReal)
            - Ideal.div (val_main_v71 (F := Ideal) x0 x1 x2 x3 x4 x5 x6 x7 x8 x9 (ix1 o) : EReal) (Ideal.ofBits .f32 0x47000000#32))
          (Ideal.sqrt (Ideal.div (val_main_v78 (F := Ideal) x0 x1 x2 x3 x4 x5 x6 x7 x8 x9 (ix1 o) : EReal)
            (Ideal.ofBits .f32 0x47000000#32)
            + Ideal.ofBits .f32 0x3727C5AC#32)) * (x10 (ix1 o) : EReal) + (x11 (ix1 o) : EReal)) (Ideal.ofBits .f32 0x00000000#32) := by
    pointwise [val_main_v96, val_main_v95, val_main_v94, val_main_v93, val_main_v92, val_main_v91, val_main_v90, val_main_v89,
      val_main_v88, val_main_v87, val_main_v86, val_main_v85, val_main_v84, val_main_v83, val_main_v82, val_main_v81,
      val_main_v80, val_main_v79, val_main_v74, val_main_v73, val_main_v72, val_main_call3_v0, val_main_call3_cst,
      val_main_cst_14, val_main_cst_16, val_main_cst_17]
  rw [h, hf, h71, h78, Ideal.ofBits_zero_f32]
  rfl

end Cert.Knn
-- ==== Proof.Finite.lean ====
/- What the precondition says: each query's four least squared distances are strictly apart, so its three nearest are
   told apart, and the features, the weights, the gains and the second layer's bias are real. -/
module

public import proofs.«01_k».proof.Proof.Gen.Pre_distinct_finite
public import proofs.«01_k».proof.Proof.RefMix
public import proofs.«01_k».proof.Proof.Arguments

@[expose] public section

set_option maxRecDepth 16384

noncomputable section

namespace Cert.Knn

open Idealize.ShloMosaic Cert.ReferenceIdeal Cert.ReferenceIdeal.Read

theorem of_one {p : Prop} [Decidable p] (h : BitVec.ofBool (decide p) = 1#1) : p := by
  by_contra hp
  rw [decide_eq_false hp] at h
  exact absurd h (by decide)

/-- An array whose absolute values all compare below infinity holds reals. -/
theorem real_of_lt {s : Shape} (x : FVec Ideal s .f32)
    (hb : (⟨0, ![]⟩ : Shape).BroadcastsInDim s (![] : Fin 0 → Fin s.rank))
    (h : cmpf .olt (Host.absf x) (broadcastInDim s (![] : Fin 0 → Fin s.rank) hb (constant ⟨0, ![]⟩ .f32 0x7F800000#32)) = fun _ => 1#1) (i : s.Idx) : IsReal (x i : EReal) := by
  have e := congrFun h i
  have e' : max (x i : EReal) (-(x i : EReal)) < Ideal.ofBits .f32 0x7F800000#32 := of_one e
  rw [ofBits_top] at e'
  exact IsReal.of_abs_lt_top e'

variable (x0 : Vec Ideal S4x8192x3 .f32) (x1 : Vec Ideal S4x2048x3 .f32) (x2 : Vec Ideal S4x8192x64 .f32)
  (x3 : Vec Ideal S4x2048x128 .f32) (x4 : Vec Ideal S128x192 .f32) (x5 x6 x7 : Vec Ideal S128 .f32)
  (x8 : Vec Ideal S64x128 .f32) (x9 x10 x11 : Vec Ideal S64 .f32)

/-- The precondition's four least distances, negated, greatest first. -/
def least4 : FVec Ideal ⟨3, ![4, 8192, 4]⟩ .f32 :=
  (Host.topK (α := Ideal .f32) ⟨3, ![4, 8192, 4]⟩ 2 (FloatOps.cmpfTotal .gt) (val_main_v13 (F := Ideal) x0 x1)
    Cert.Pre_distinct_finite.Gen.sliceFits_S4x8192x2048_S4x8192x4).1

theorem least4_eq (b : Fin 4) (n : Fin 8192) (j : Fin 4) :
    (least4 x0 x1 (ix3 b n j) : EReal)
      = -sqDist (fun k => x0 (ix3 b n k)) (fun k => x1 (ix3 b (order x0 x1 b n (j.castLE (by omega))) k)) := by
  refine (topK_value (by omega) (val_main_v13 (F := Ideal) x0 x1) _ b n j).trans ?_
  exact (congrArg (fun r : Fin 2048 → Fin 2048 => (val_main_v13 (F := Ideal) x0 x1 (ix3 b n (r _)) : EReal))
    (row_eq x0 x1 b n)).trans (ref_neg x0 x1 b n _)

/-- Every query's three nearest are told apart. -/
theorem pre_nearest
    (h : (Cert.Pre_distinct_finite.fn (F := Ideal) x0 x1 x2 x3 x4 x5 x6 x7 x8 x9 x10 x11).1 = fun _ => 1#1)
    (b : Fin 4) (n : Fin 8192) :
    Nearest (fun m => sqDist (fun k => x0 (ix3 b n k)) (fun k => x1 (ix3 b m k)))
      (order x0 x1 b n 0) (order x0 x1 b n 1) (order x0 x1 b n 2) := by
  have e : (Cert.Pre_distinct_finite.fn (F := Ideal) x0 x1 x2 x3 x4 x5 x6 x7 x8 x9 x10 x11).1
      = cmpf .ogt
        (extractStridedSlice ⟨3, ![4, 8192, 3]⟩ ![0, 0, 0] (least4 x0 x1)
          Cert.Pre_distinct_finite.Gen.slices_S4x8192x4_S4x8192x3_0_0_0)
        (extractStridedSlice ⟨3, ![4, 8192, 3]⟩ ![0, 0, 1] (least4 x0 x1)
          Cert.Pre_distinct_finite.Gen.slices_S4x8192x4_S4x8192x3_0_0_1) := rfl
  rw [e] at h
  have key : ∀ j : Fin 3, (least4 x0 x1 (ix3 b n ⟨1 + j.val, by omega⟩) : EReal)
      < (least4 x0 x1 (ix3 b n ⟨j.val, by omega⟩) : EReal) := fun j => by
    have hj := congrFun h (ix3 b n j)
    generalize least4 x0 x1 = y at hj ⊢
    have e1 : extractStridedSlice ⟨3, ![4, 8192, 3]⟩ ![0, 0, 1] y
        Cert.Pre_distinct_finite.Gen.slices_S4x8192x4_S4x8192x3_0_0_1 (ix3 b n j) = y (ix3 b n ⟨1 + j.val, by omega⟩) := by
      pointwise []
    have e0 : extractStridedSlice ⟨3, ![4, 8192, 3]⟩ ![0, 0, 0] y
        Cert.Pre_distinct_finite.Gen.slices_S4x8192x4_S4x8192x3_0_0_0 (ix3 b n j) = y (ix3 b n ⟨j.val, by omega⟩) := by
      pointwise []
    rw [← e1, ← e0]
    exact of_one hj
  have k0 := key 0
  have k1 := key 1
  have k2 := key 2
  rw [least4_eq, least4_eq] at k0 k1 k2
  exact nearest_of_rank _ (order x0 x1 b n) rfl k0 k1 k2

/-- What the proof asks of the arguments. -/
structure Fine (A : Args) : Prop where
  near : ∀ R, ∃ a b c, Nearest (A.dist R) a b c
  p1 : ∀ b n k, IsReal (A.p1 b n k)
  p2 : ∀ b m k, IsReal (A.p2 b m k)
  w0 : ∀ o k, IsReal (A.w0 o k)
  g0 : ∀ o, IsReal (A.g0 o)
  β0 : ∀ o, A.β0 o < ⊤
  w1 : ∀ o k, IsReal (A.w1 o k)
  b1 : ∀ o, IsReal (A.b1 o)
  g1 : ∀ o, IsReal (A.g1 o)

/-- The precondition, as Defs.lean states it of one device's arrays. -/
def Pre : Prop :=
  (Cert.Pre_distinct_finite.fn (F := Ideal) x0 x1 x2 x3 x4 x5 x6 x7 x8 x9 x10 x11).1 = (fun _ => 1#1)
  ∧ (Cert.Pre_distinct_finite.fn (F := Ideal) x0 x1 x2 x3 x4 x5 x6 x7 x8 x9 x10 x11).2.1 = (fun _ => 1#1)
  ∧ (Cert.Pre_distinct_finite.fn (F := Ideal) x0 x1 x2 x3 x4 x5 x6 x7 x8 x9 x10 x11).2.2.1 = (fun _ => 1#1)
  ∧ (Cert.Pre_distinct_finite.fn (F := Ideal) x0 x1 x2 x3 x4 x5 x6 x7 x8 x9 x10 x11).2.2.2.1 = (fun _ => 1#1)
  ∧ (Cert.Pre_distinct_finite.fn (F := Ideal) x0 x1 x2 x3 x4 x5 x6 x7 x8 x9 x10 x11).2.2.2.2.1 = (fun _ => 1#1)
  ∧ (Cert.Pre_distinct_finite.fn (F := Ideal) x0 x1 x2 x3 x4 x5 x6 x7 x8 x9 x10 x11).2.2.2.2.2.1 = (fun _ => 1#1)
  ∧ (Cert.Pre_distinct_finite.fn (F := Ideal) x0 x1 x2 x3 x4 x5 x6 x7 x8 x9 x10 x11).2.2.2.2.2.2.1 = (fun _ => 1#1)
  ∧ (Cert.Pre_distinct_finite.fn (F := Ideal) x0 x1 x2 x3 x4 x5 x6 x7 x8 x9 x10 x11).2.2.2.2.2.2.2.1 = (fun _ => 1#1)
  ∧ (Cert.Pre_distinct_finite.fn (F := Ideal) x0 x1 x2 x3 x4 x5 x6 x7 x8 x9 x10 x11).2.2.2.2.2.2.2.2 = (fun _ => 1#1)

/-- The precondition gives what the proof asks. -/
theorem fine (h : Pre x0 x1 x2 x3 x4 x5 x6 x7 x8 x9 x10 x11) :
    Fine (argsOf x0 x1 x2 x3 x4 x5 x6 x7 x8 x9 x10 x11) := by
  obtain ⟨hn, h2, h3, h4, h6, h7, h8, h9, h10⟩ := h
  refine ⟨fun R => ⟨_, _, _, pre_nearest x0 x1 x2 x3 x4 x5 x6 x7 x8 x9 x10 x11 hn (bOf R) (nOf R)⟩,
    fun b n k => real_of_lt x2 Cert.Pre_distinct_finite.Gen.bcast_S_S4x8192x64 h2 _,
    fun b m k => real_of_lt x3 Cert.Pre_distinct_finite.Gen.bcast_S_S4x2048x128 h3 _,
    fun o k => real_of_lt x4 Cert.Pre_distinct_finite.Gen.bcast_S_S128x192 h4 _,
    fun o => real_of_lt x6 Cert.Pre_distinct_finite.Gen.bcast_S_S128 h6 _,
    fun o => ?_,
    fun o k => real_of_lt x8 Cert.Pre_distinct_finite.Gen.bcast_S_S64x128 h8 _,
    fun o => real_of_lt x9 Cert.Pre_distinct_finite.Gen.bcast_S_S64 h9 _,
    fun o => real_of_lt x10 Cert.Pre_distinct_finite.Gen.bcast_S_S64 h10 _⟩
  have e : (x7 (ix1 o) : EReal) < Ideal.ofBits .f32 0x7F800000#32 := of_one (congrFun h7 (ix1 o))
  rw [ofBits_top] at e
  exact e

end Cert.Knn
-- ==== Proof.Constant.lean ====
/- What an infinite bias does to the first batch norm: it makes a whole column one infinity, which either form of the norm
   sends to one real number; and a real number added to a whole column is lost in the next batch norm. -/
module

public import proofs.«01_k».proof.Proof.Norm

@[expose] public section

noncomputable section

namespace Cert.Knn

open Idealize.ShloMosaic

/-- An extended real that is no real is one of the two infinities. -/
theorem top_or_bot {x : EReal} (h : ¬ IsReal x) : x = ⊤ ∨ x = ⊥ := by
  induction x using EReal.rec with
  | bot => exact .inr rfl
  | coe r => exact absurd (IsReal.coe r) h
  | top => exact .inl rfl

/-- A real added to an infinity is lost. -/
theorem IsReal.add_inf {a x : EReal} (ha : IsReal a) (h : ¬ IsReal x) : a + x = x := by
  obtain ⟨r, rfl⟩ := ha
  rcases top_or_bot h with rfl | rfl
  · exact EReal.coe_add_top r
  · exact EReal.add_bot _

/-- The mean of a column holding one infinity is that infinity. -/
theorem mean_inf {ι : Type} [Fintype ι] (hc : Fintype.card ι = 32768) {x : EReal} (h : ¬ IsReal x) :
    Ideal.div (∑ _i : ι, x) rowsN = x := by
  have hp : (0 : EReal) < ((32768 : ℕ) : EReal) := by exact_mod_cast (by norm_num : 0 < 32768)
  have hq : (0 : ℝ) < 1 / 32768 := by norm_num
  rw [Finset.sum_const, Finset.card_univ, hc, EReal.nsmul_eq_mul, rowsN, ofBits_rows, Ideal.div_coe (by norm_num)]
  rcases top_or_bot h with rfl | rfl
  · rw [EReal.mul_top_of_pos hp, EReal.top_mul_coe_of_pos hq]
  · rw [EReal.mul_bot_of_pos hp, EReal.bot_mul_coe_of_pos hq]

/-- The one-pass form sends a column holding one infinity to a real, where the bias is below infinity. -/
theorem onePass_inf {ι : Type} [Fintype ι] (hc : Fintype.card ι = 32768) {x : EReal} (h : ¬ IsReal x) (ss g β : EReal)
    (hβ : β < ⊤) : IsReal (onePass (∑ _i : ι, x) ss g β x) := by
  unfold onePass
  rw [mean_inf hc h]
  generalize x * scaleOf (∑ _i : ι, x) ss g = t
  induction t using EReal.rec with
  | bot => exact ⟨0, by simp⟩
  | top =>
    refine ⟨0, ?_⟩
    rw [sub_eq_add_neg, EReal.neg_top, EReal.add_bot, EReal.add_bot, max_eq_right bot_le]; rfl
  | coe t =>
    induction β using EReal.rec with
    | bot => exact ⟨0, by simp [sub_eq_add_neg]⟩
    | top => simp at hβ
    | coe b =>
      rw [← EReal.coe_sub, ← EReal.coe_add]
      exact (IsReal.coe _).max IsReal.zero

/-- The centred entries of a column holding one infinity. -/
theorem centred_inf {ι : Type} [Fintype ι] (hc : Fintype.card ι = 32768) {x : EReal} (h : ¬ IsReal x) :
    centred (∑ _i : ι, x) x = ⊥ := by
  rw [centred, mean_inf hc h]
  rcases top_or_bot h with rfl | rfl
  · rw [sub_eq_add_neg, EReal.neg_top, EReal.add_bot]
  · rw [sub_eq_add_neg, EReal.bot_add]

/-- The two-pass form sends a column holding one infinity to a real, where the bias is below infinity. -/
theorem twoPass_inf {ι : Type} [Fintype ι] (hc : Fintype.card ι = 32768) {x : EReal} (h : ¬ IsReal x) (g β : EReal)
    (hβ : β < ⊤) :
    IsReal (twoPass (∑ _i : ι, x) (∑ _j : ι, centred (∑ _i : ι, x) x * centred (∑ _i : ι, x) x) g β x) := by
  obtain ⟨e, -, ee⟩ := ofBits_eps
  have ht : ¬ IsReal (⊤ : EReal) := fun ⟨r, hr⟩ => EReal.coe_ne_top r hr.symm
  have hd : Ideal.div ⊥ (⊤ : EReal) = 0 := by
    rw [Ideal.div, if_neg (by simp), EReal.inv_top, mul_zero]
  have hs : Ideal.sqrt ⊤ = ⊤ := rfl
  unfold twoPass
  rw [centred_inf hc h, EReal.bot_mul_bot, mean_inf hc ht, epsN, ee, EReal.top_add_coe, hs, hd, zero_mul, zero_add]
  induction β using EReal.rec with
  | bot => exact ⟨0, by simp⟩
  | top => simp at hβ
  | coe b => exact (IsReal.coe _).max IsReal.zero

/-- A real added to a whole real column leaves the centred entries as they were. -/
theorem centred_shift {ι : Type} [Fintype ι] (hc : Fintype.card ι = 32768) (x : ι → EReal) (hx : ∀ i, IsReal (x i))
    (c : EReal) (h : IsReal c) (i : ι) : centred (∑ j, (x j + c)) (x i + c) = centred (∑ j, x j) (x i) := by
  choose r hr using hx
  obtain rfl : x = fun i => (r i : EReal) := funext hr
  obtain ⟨c, rfl⟩ := h
  unfold centred
  dsimp only
  simp only [← EReal.coe_add, ← coe_sum]
  rw [rowsN, ofBits_rows, Ideal.div_coe (by norm_num), Ideal.div_coe (by norm_num)]
  simp only [← EReal.coe_mul, ← EReal.coe_sub]
  congr 1
  rw [Finset.sum_add_distrib, Finset.sum_const, Finset.card_univ, hc, nsmul_eq_mul]
  push_cast
  ring

/-- So the two-pass form does not see it. -/
theorem twoPass_shift {ι : Type} [Fintype ι] (hc : Fintype.card ι = 32768) (x : ι → EReal) (hx : ∀ i, IsReal (x i))
    (c : EReal) (h : IsReal c) (g β : EReal) (i : ι) :
    twoPass (∑ j, (x j + c)) (∑ j, centred (∑ l, (x l + c)) (x j + c) * centred (∑ l, (x l + c)) (x j + c)) g β (x i + c)
      = twoPass (∑ j, x j) (∑ j, centred (∑ l, x l) (x j) * centred (∑ l, x l) (x j)) g β (x i) := by
  unfold twoPass
  simp only [centred_shift hc x hx c h]

/-- Two real columns, one the other with a real added throughout, combine with real weights into two such columns. -/
theorem sum_shift {κ : Type} [Fintype κ] (z t c w : κ → EReal) (hz : ∀ k, IsReal (z k)) (hc : ∀ k, IsReal (c k))
    (hw : ∀ k, IsReal (w k)) (ht : ∀ k, t k = z k + c k) (b : EReal) :
    ∑ k, t k * w k + b = (∑ k, z k * w k + b) + ∑ k, c k * w k := by
  obtain rfl : t = fun k => z k + c k := funext ht
  have e : ∀ k, (z k + c k) * w k = z k * w k + c k * w k := fun k => by
    obtain ⟨p, hp⟩ := hz k
    obtain ⟨q, hq⟩ := hc k
    obtain ⟨r, hr⟩ := hw k
    rw [hp, hq, hr]
    simp only [← EReal.coe_add, ← EReal.coe_mul]
    congr 1
    ring
  rw [Finset.sum_congr rfl fun k _ => e k, Finset.sum_add_distrib, add_right_comm]

end Cert.Knn
-- ==== Proof.RefValue.lean ====
/- What the reference computes: the model of the arguments, where the precondition holds. -/
module

public import proofs.«01_k».proof.Proof.RefLayer
public import proofs.«01_k».proof.Proof.RefNorm
public import proofs.«01_k».proof.Proof.Finite
public import proofs.«01_k».proof.Proof.Constant

@[expose] public section

set_option maxRecDepth 16384

noncomputable section

namespace Cert.Knn

open Idealize.ShloMosaic Cert.ReferenceIdeal Cert.ReferenceIdeal.Read

/-- The rows are 32768. -/
theorem card_rows : Fintype.card (Fin 32768) = 32768 := Fintype.card_fin _

/-- The first layer normalised by the two-pass form. -/
def Args.T0 (A : Args) (R : Fin 32768) (o : Fin 128) : EReal :=
  twoPass (∑ Q, A.Y0 Q o) (∑ Q, centred (∑ P, A.Y0 P o) (A.Y0 Q o) * centred (∑ P, A.Y0 P o) (A.Y0 Q o)) (A.g0 o) (A.β0 o)
    (A.Y0 R o)

/-- The second layer of that. -/
def Args.T1 (A : Args) (R : Fin 32768) (o : Fin 64) : EReal := ∑ k, A.T0 R k * A.w1 o k + A.b1 o

namespace Fine

variable {A : Args} (h : Fine A)

include h

/-- The first layer is real but for the bias. -/
theorem Y0_bias (R : Fin 32768) (o : Fin 128) : ∃ a, IsReal a ∧ A.Y0 R o = a + A.b0 o := by
  obtain ⟨a, b, c, hn⟩ := h.near R
  exact ⟨_, .add (.sum _ fun k => .mul (h.p1 _ _ _) (h.w0 _ _))
    (.sum _ fun k => .mul (hn.pick_real fun m => h.p2 _ _ _) (h.w0 _ _)), rfl⟩

/-- An output's column of the first layer is real, or one infinity throughout. -/
theorem Y0_cases (o : Fin 128) :
    (∀ R, IsReal (A.Y0 R o)) ∨ (∃ x, ¬ IsReal x ∧ (fun R => A.Y0 R o) = fun _ => x) := by
  by_cases hb : IsReal (A.b0 o)
  · exact .inl fun R => by
      obtain ⟨a, ha, e⟩ := h.Y0_bias R o
      exact e ▸ ha.add hb
  · exact .inr ⟨A.b0 o, hb, funext fun R => by
      obtain ⟨a, ha, e⟩ := h.Y0_bias R o
      exact e.trans (ha.add_inf hb)⟩

/-- The first batch norm is real in either form, and the two forms differ, an output at a time, by one real for all rows. -/
theorem norm0 (o : Fin 128) :
    ∃ c, IsReal c ∧ ∀ R, IsReal (A.Z0 R o) ∧ A.T0 R o = A.Z0 R o + c := by
  rcases h.Y0_cases o with hr | ⟨x, hx, e⟩
  · exact ⟨0, .zero, fun R => ⟨onePass_real card_rows (fun R => A.Y0 R o) hr _ _ (h.g0 o) (h.β0 o) R,
      (onePass_eq_twoPass card_rows (fun R => A.Y0 R o) hr _ _ (h.g0 o) R).symm.trans (add_zero _).symm⟩⟩
  · have e' : ∀ R, A.Y0 R o = x := congrFun e
    obtain ⟨z, hz⟩ := onePass_inf (ι := Fin 32768) card_rows hx (∑ _i : Fin 32768, x * x) (A.g0 o) (A.β0 o) (h.β0 o)
    obtain ⟨t, ht⟩ := twoPass_inf (ι := Fin 32768) card_rows hx (A.g0 o) (A.β0 o) (h.β0 o)
    refine ⟨((t - z : ℝ) : EReal), .coe _, fun R => ?_⟩
    have eZ : A.Z0 R o = z := by
      unfold Args.Z0
      simp only [e']
      exact hz
    have eT : A.T0 R o = t := by
      unfold Args.T0
      simp only [e']
      exact ht
    refine ⟨⟨z, eZ⟩, ?_⟩
    rw [eT, eZ, ← EReal.coe_add, add_sub_cancel]

/-- The second layer is real. -/
theorem Y1_real (R : Fin 32768) (o : Fin 64) : IsReal (A.Y1 R o) :=
  .add (.sum _ fun k => .mul ((h.norm0 k).choose_spec.2 R).1 (h.w1 _ _)) (h.b1 _)

/-- The second layer of the two forms differs, an output at a time, by one real for all rows. -/
theorem T1_eq (o : Fin 64) : ∃ c, IsReal c ∧ ∀ R, A.T1 R o = A.Y1 R o + c := by
  choose c hc e using h.norm0
  exact ⟨∑ k, c k * A.w1 o k, .sum _ fun k => (hc k).mul (h.w1 o k), fun R =>
    sum_shift (fun k => A.Z0 R k) (fun k => A.T0 R k) c (A.w1 o) (fun k => (e k R).1) hc (h.w1 o) (fun k => (e k R).2) _⟩

/-- The second batch norm, in its two-pass form over the two-pass layer. -/
theorem Z1_eq (R : Fin 32768) (o : Fin 64) :
    A.Z1 R o = twoPass (∑ Q, A.T1 Q o) (∑ Q, centred (∑ P, A.T1 P o) (A.T1 Q o) * centred (∑ P, A.T1 P o) (A.T1 Q o))
      (A.g1 o) (A.β1 o) (A.T1 R o) := by
  obtain ⟨c, hc, e⟩ := h.T1_eq o
  simp only [e]
  exact (onePass_eq_twoPass card_rows (fun R => A.Y1 R o) (fun R => h.Y1_real R o) _ _ (h.g1 o) R).trans
    (twoPass_shift card_rows (fun R => A.Y1 R o) (fun R => h.Y1_real R o) c hc _ _ R).symm

end Fine

variable (x0 : Vec Ideal S4x8192x3 .f32) (x1 : Vec Ideal S4x2048x3 .f32) (x2 : Vec Ideal S4x8192x64 .f32)
  (x3 : Vec Ideal S4x2048x128 .f32) (x4 : Vec Ideal S128x192 .f32) (x5 x6 x7 : Vec Ideal S128 .f32)
  (x8 : Vec Ideal S64x128 .f32) (x9 x10 x11 : Vec Ideal S64 .f32)

/-- The reference's result is the model's. -/
theorem ref_eq (h : Pre x0 x1 x2 x3 x4 x5 x6 x7 x8 x9 x10 x11) (b : Fin 4) (n : Fin 8192) (o : Fin 64) :
    (val_main_v96 (F := Ideal) x0 x1 x2 x3 x4 x5 x6 x7 x8 x9 x10 x11 (ix3 b n o) : EReal)
      = (argsOf x0 x1 x2 x3 x4 x5 x6 x7 x8 x9 x10 x11).Z1 (rowAt b n) o := by
  have hA := fine x0 x1 x2 x3 x4 x5 x6 x7 x8 x9 x10 x11 h
  have hY0 : ∀ (o : Fin 128) b n, (val_main_v40 (F := Ideal) x0 x1 x2 x3 x4 x5 (ix3 b o n) : EReal)
      = (argsOf x0 x1 x2 x3 x4 x5 x6 x7 x8 x9 x10 x11).Y0 (rowAt b n) o := fun o b n => by
    refine (ref_layer0 x0 x1 x2 x3 x4 x5 b o n (pre_nearest x0 x1 x2 x3 x4 x5 x6 x7 x8 x9 x10 x11 h.1 b n)).trans ?_
    unfold Args.Y0 Args.dist
    rw [bOf_rowAt, nOf_rowAt]
    rfl
  have hZ0 : ∀ (o : Fin 128) b n, (val_main_v65 (F := Ideal) x0 x1 x2 x3 x4 x5 x6 x7 (ix3 b o n) : EReal)
      = (argsOf x0 x1 x2 x3 x4 x5 x6 x7 x8 x9 x10 x11).T0 (rowAt b n) o := fun o b n =>
    (ref_norm0 x0 x1 x2 x3 x4 x5 x6 x7 (fun R => (argsOf x0 x1 x2 x3 x4 x5 x6 x7 x8 x9 x10 x11).Y0 R o) o (hY0 o) b n)
  have hY1 : ∀ (o : Fin 64) b n, (val_main_v70 (F := Ideal) x0 x1 x2 x3 x4 x5 x6 x7 x8 x9 (ix3 b o n) : EReal)
      = (argsOf x0 x1 x2 x3 x4 x5 x6 x7 x8 x9 x10 x11).T1 (rowAt b n) o := fun o b n => by
    refine (ref_layer1 x0 x1 x2 x3 x4 x5 x6 x7 x8 x9 b o n).trans ?_
    unfold Args.T1
    refine congrArg (fun z : EReal => z + (x9 (ix1 o) : EReal)) (Finset.sum_congr rfl fun k _ => ?_)
    exact congrArg (fun z : EReal => z * (x8 (ix2 o k) : EReal)) (hZ0 k b n)
  exact (ref_norm1 x0 x1 x2 x3 x4 x5 x6 x7 x8 x9 x10 x11
    (fun R => (argsOf x0 x1 x2 x3 x4 x5 x6 x7 x8 x9 x10 x11).T1 R o) o (hY1 o) b n).trans (hA.Z1_eq (rowAt b n) o).symm

end Cert.Knn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_distinct_finite
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel as printed runs, leaves its arguments as they were and ends with every counter at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The same of the reference over the extended reals, which has no semaphore at all. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two over the extended reals again, under the precondition the value claim states. -/
theorem frame_kernelIdeal_pre : Cert.quiescent_KernelIdeal_pre_distinct_finite := fun m ρ _ => Cert.KernelIdeal.Gen.frame m ρ

theorem frame_referenceIdeal_pre : Cert.quiescent_ReferenceIdeal_pre_distinct_finite := fun m ρ _ =>
  frame_referenceIdeal m ρ trivial

/-- The value: from memories that agree on the arguments, the reference's result is what the kernel's result buffer ends
    holding, where every query's four least squared distances are strictly apart and the features, the weights, the
    gains and the second bias are finite, the first norm's bias below infinity. -/
theorem algebraic : Cert.algebraic_KernelIdeal_ReferenceIdeal_pre_distinct_finite := by
  intro m ρ m' ρ' hpre hargs
  refine ⟨fun c => Cert.KernelIdeal.Gen.W7 m ρ c (Proc.devRef .tc Cert.KernelIdeal.main_v15),
    (θ_run Cert.KernelIdeal.defs _ _).mono (fun r h => h.1) (Cert.Knn.run (F := Ideal) m ρ),
    (θ_run Cert.ReferenceIdeal.defs _ _).mono ?_
      (Cert.ReferenceIdeal.Value.run (F := Ideal) m' ρ')⟩
  intro r h c
  refine ⟨?_, (h c).2⟩
  refine (h c).1.trans ((Cert.ReferenceIdeal.Read.val_main_v96_eq _).trans ?_)
  obtain ⟨e0, e1, e2, e3, e4, e5, e6, e7, e8, e9, e10, e11⟩ := hargs c
  have value : Cert.ReferenceIdeal.Read.val_main_v96 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      = Cert.KernelIdeal.Gen.W7 m ρ c (Proc.devRef .tc Cert.KernelIdeal.main_v15) := by
    funext i
    obtain ⟨b, n, o, rfl⟩ : ∃ b n o, i = ix3 b n o := ⟨i 0, i 1, i 2, eq_ix3 i⟩
    exact (Cert.Knn.ref_eq _ _ _ _ _ _ _ _ _ _ _ _ (hpre c) b n o).trans (Cert.Knn.kernel_value m ρ c b n o).symm
  refine Eq.trans ?_ value
  rw [← e0, ← e1, ← e2, ← e3, ← e4, ← e5, ← e6, ← e7, ← e8, ← e9, ← e10, ← e11]

theorem claim : Cert.Claim := ⟨Cert.Kernel.Gen.facts, Cert.KernelIdeal.Gen.facts, Cert.ReferenceIdeal.Gen.facts,
  Cert.Pre_distinct_finite.Gen.facts, frame_kernel, frame_kernelIdeal, frame_kernelIdeal_pre, frame_referenceIdeal,
  frame_referenceIdeal_pre, trivial, algebraic⟩

end Cert.Proof

end
